-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![16384, 768]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x768 : Shape := ⟨3, ![2, 512, 768]⟩
abbrev S768x512 : Shape := ⟨2, ![768, 512]⟩
abbrev S2x512x256x64 : Shape := ⟨4, ![2, 512, 256, 64]⟩
abbrev S512x768 : Shape := ⟨2, ![512, 768]⟩
abbrev S_ : Shape := ⟨0, ![]⟩
abbrev S2x512x8x64 : Shape := ⟨4, ![2, 512, 8, 64]⟩
abbrev S1024x768 : Shape := ⟨2, ![1024, 768]⟩
abbrev S992x768 : Shape := ⟨2, ![992, 768]⟩
abbrev S10 : Shape := ⟨1, ![10]⟩
abbrev S512x512 : Shape := ⟨2, ![512, 512]⟩
abbrev S1x512x768 : Shape := ⟨3, ![1, 512, 768]⟩
abbrev S768x64 : Shape := ⟨2, ![768, 64]⟩
abbrev S512x64 : Shape := ⟨2, ![512, 64]⟩
abbrev S1x512x1x64 : Shape := ⟨4, ![1, 512, 1, 64]⟩
abbrev S512 : Shape := ⟨1, ![512]⟩
abbrev S512x1 : Shape := ⟨2, ![512, 1]⟩
abbrev S64x768 : Shape := ⟨2, ![64, 768]⟩
abbrev S1 : Shape := ⟨1, ![1]⟩
abbrev S256x768 : Shape := ⟨2, ![256, 768]⟩
abbrev S128x768 : Shape := ⟨2, ![128, 768]⟩
abbrev S32x768 : Shape := ⟨2, ![32, 768]⟩

abbrev nBuf : Space → Nat
  | .hbm => 35
  | .vmem => 10
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x256x64, .bf16⟩
  | .hbm, ⟨3, _⟩ => ⟨S2x512x256x64, .bf16⟩
  | .hbm, ⟨4, _⟩ => ⟨S512x768, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x512x8x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x512x8x64, .bf16⟩
  | .hbm, ⟨33, _⟩ => ⟨S1024x768, .f32⟩
  | .hbm, ⟨34, _⟩ => ⟨S2x512x768, .f32⟩
  | .local _ .vmem, ⟨0, _⟩ => ⟨S2x512x768, .bf16⟩
  | .local _ .vmem, ⟨1, _⟩ => ⟨S768x512, .bf16⟩
  | .local _ .vmem, ⟨2, _⟩ => ⟨S2x512x8x64, .bf16⟩
  | .local _ .vmem, ⟨3, _⟩ => ⟨S2x512x8x64, .bf16⟩
  | .local _ .vmem, ⟨4, _⟩ => ⟨S512x768, .bf16⟩
  | .local _ .vmem, ⟨5, _⟩ => ⟨S1024x768, .f32⟩
  | .local _ .vmem, ⟨6, _⟩ => ⟨S1024x768, .f32⟩
  | .local _ .vmem, ⟨7, _⟩ => ⟨S512x768, .bf16⟩
  | .local _ .vmem, ⟨8, _⟩ => ⟨S992x768, .bf16⟩
  | .local _ .vmem, ⟨9, _⟩ => ⟨S1024x768, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d482 : Dev nD) : Nat :=
  let c0_i32_370 : BitVec 32 := 0#32
  let c8_i32_332 : BitVec 32 := 8#32
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32 : BitVec 32 := 0#32
  let v486 : BitVec 1 := Scalar.cmpi .sgt v484 c0_i32
  let v487 : BitVec 32 := Scalar.extui v486
  let c0_i32_315 : BitVec 32 := 0#32
  let v488 : BitVec 1 := Scalar.cmpi .slt v484 c0_i32_315
  let v489 : BitVec 32 := Scalar.extui v488
  let v490 : BitVec 32 := Scalar.subi v487 v489
  let c8_i32 : BitVec 32 := 8#32
  let c0_i32_316 : BitVec 32 := 0#32
  let v491 : BitVec 1 := Scalar.cmpi .sgt c8_i32 c0_i32_316
  let v492 : BitVec 32 := Scalar.extui v491
  let c0_i32_317 : BitVec 32 := 0#32
  let v493 : BitVec 1 := Scalar.cmpi .slt c8_i32 c0_i32_317
  let v494 : BitVec 32 := Scalar.extui v493
  let v495 : BitVec 32 := Scalar.subi v492 v494
  let v496 : BitVec 1 := Scalar.cmpi .ne v490 v495
  let v497 : BitVec 32 := Scalar.remsi v484 c8_i32
  let c0_i32_318 : BitVec 32 := 0#32
  let v498 : BitVec 1 := Scalar.cmpi .ne v497 c0_i32_318
  let v499 : BitVec 1 := Scalar.andi v496 v498
  let v485 : BitVec 32 := Scalar.divsi v484 c8_i32
  let c1_i32_319 : BitVec 32 := 1#32
  let v500 : BitVec 32 := Scalar.subi v485 c1_i32_319
  let v501 : BitVec 32 := Scalar.select v499 v500 v485
  let v528 : BitVec 32 := Scalar.muli c8_i32_332 v501
  let c2_i32_330 : BitVec 32 := 2#32
  let c8_i32_320 : BitVec 32 := 8#32
  let v502 : BitVec 32 := Scalar.remsi v484 c8_i32_320
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let v524 : BitVec 32 := Scalar.muli c2_i32_330 v519
  let c2_i32_327 : BitVec 32 := 2#32
  let v520 : BitVec 32 := Scalar.remsi v502 c2_i32_327
  let c2_i32_328 : BitVec 32 := 2#32
  let v521 : BitVec 32 := Scalar.remsi v519 c2_i32_328
  let v522 : BitVec 32 := Scalar.xori v520 v521
  let c1_i32_329 : BitVec 32 := 1#32
  let v523 : BitVec 32 := Scalar.xori v522 c1_i32_329
  let c2_i32_331 : BitVec 32 := 2#32
  let v525 : BitVec 32 := Scalar.remsi v519 c2_i32_331
  let v526 : BitVec 32 := Scalar.xori v523 v525
  let v527 : BitVec 32 := Scalar.addi v524 v526
  let v529 : BitVec 32 := Scalar.addi v528 v527
  let c1_i32_369 : BitVec 32 := 1#32
  let v598 : BitVec 32 := Scalar.muli v529 c1_i32_369
  let v599 : BitVec 32 := Scalar.addi c0_i32_370 v598
  v599.toNat
def k0_dev2 (d482 : Dev nD) : Nat :=
  let c0_i32_373 : BitVec 32 := 0#32
  let c8_i32_336 : BitVec 32 := 8#32
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32 : BitVec 32 := 0#32
  let v486 : BitVec 1 := Scalar.cmpi .sgt v484 c0_i32
  let v487 : BitVec 32 := Scalar.extui v486
  let c0_i32_315 : BitVec 32 := 0#32
  let v488 : BitVec 1 := Scalar.cmpi .slt v484 c0_i32_315
  let v489 : BitVec 32 := Scalar.extui v488
  let v490 : BitVec 32 := Scalar.subi v487 v489
  let c8_i32 : BitVec 32 := 8#32
  let c0_i32_316 : BitVec 32 := 0#32
  let v491 : BitVec 1 := Scalar.cmpi .sgt c8_i32 c0_i32_316
  let v492 : BitVec 32 := Scalar.extui v491
  let c0_i32_317 : BitVec 32 := 0#32
  let v493 : BitVec 1 := Scalar.cmpi .slt c8_i32 c0_i32_317
  let v494 : BitVec 32 := Scalar.extui v493
  let v495 : BitVec 32 := Scalar.subi v492 v494
  let v496 : BitVec 1 := Scalar.cmpi .ne v490 v495
  let v497 : BitVec 32 := Scalar.remsi v484 c8_i32
  let c0_i32_318 : BitVec 32 := 0#32
  let v498 : BitVec 1 := Scalar.cmpi .ne v497 c0_i32_318
  let v499 : BitVec 1 := Scalar.andi v496 v498
  let v485 : BitVec 32 := Scalar.divsi v484 c8_i32
  let c1_i32_319 : BitVec 32 := 1#32
  let v500 : BitVec 32 := Scalar.subi v485 c1_i32_319
  let v501 : BitVec 32 := Scalar.select v499 v500 v485
  let v535 : BitVec 32 := Scalar.muli c8_i32_336 v501
  let c2_i32_334 : BitVec 32 := 2#32
  let c8_i32_320 : BitVec 32 := 8#32
  let v502 : BitVec 32 := Scalar.remsi v484 c8_i32_320
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let c1_i32_333 : BitVec 32 := 1#32
  let v530 : BitVec 32 := Scalar.xori v519 c1_i32_333
  let v531 : BitVec 32 := Scalar.muli c2_i32_334 v530
  let c2_i32_327 : BitVec 32 := 2#32
  let v520 : BitVec 32 := Scalar.remsi v502 c2_i32_327
  let c2_i32_328 : BitVec 32 := 2#32
  let v521 : BitVec 32 := Scalar.remsi v519 c2_i32_328
  let v522 : BitVec 32 := Scalar.xori v520 v521
  let c2_i32_335 : BitVec 32 := 2#32
  let v532 : BitVec 32 := Scalar.remsi v530 c2_i32_335
  let v533 : BitVec 32 := Scalar.xori v522 v532
  let v534 : BitVec 32 := Scalar.addi v531 v533
  let v536 : BitVec 32 := Scalar.addi v535 v534
  let c1_i32_372 : BitVec 32 := 1#32
  let v600 : BitVec 32 := Scalar.muli v536 c1_i32_372
  let v601 : BitVec 32 := Scalar.addi c0_i32_373 v600
  v601.toNat
def k0_dev3 (d482 : Dev nD) : Nat :=
  let c0_i32_376 : BitVec 32 := 0#32
  let c8_i32_340 : BitVec 32 := 8#32
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32 : BitVec 32 := 0#32
  let v486 : BitVec 1 := Scalar.cmpi .sgt v484 c0_i32
  let v487 : BitVec 32 := Scalar.extui v486
  let c0_i32_315 : BitVec 32 := 0#32
  let v488 : BitVec 1 := Scalar.cmpi .slt v484 c0_i32_315
  let v489 : BitVec 32 := Scalar.extui v488
  let v490 : BitVec 32 := Scalar.subi v487 v489
  let c8_i32 : BitVec 32 := 8#32
  let c0_i32_316 : BitVec 32 := 0#32
  let v491 : BitVec 1 := Scalar.cmpi .sgt c8_i32 c0_i32_316
  let v492 : BitVec 32 := Scalar.extui v491
  let c0_i32_317 : BitVec 32 := 0#32
  let v493 : BitVec 1 := Scalar.cmpi .slt c8_i32 c0_i32_317
  let v494 : BitVec 32 := Scalar.extui v493
  let v495 : BitVec 32 := Scalar.subi v492 v494
  let v496 : BitVec 1 := Scalar.cmpi .ne v490 v495
  let v497 : BitVec 32 := Scalar.remsi v484 c8_i32
  let c0_i32_318 : BitVec 32 := 0#32
  let v498 : BitVec 1 := Scalar.cmpi .ne v497 c0_i32_318
  let v499 : BitVec 1 := Scalar.andi v496 v498
  let v485 : BitVec 32 := Scalar.divsi v484 c8_i32
  let c1_i32_319 : BitVec 32 := 1#32
  let v500 : BitVec 32 := Scalar.subi v485 c1_i32_319
  let v501 : BitVec 32 := Scalar.select v499 v500 v485
  let c1_i32_337 : BitVec 32 := 1#32
  let v537 : BitVec 32 := Scalar.xori v501 c1_i32_337
  let v542 : BitVec 32 := Scalar.muli c8_i32_340 v537
  let c2_i32_338 : BitVec 32 := 2#32
  let c8_i32_320 : BitVec 32 := 8#32
  let v502 : BitVec 32 := Scalar.remsi v484 c8_i32_320
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let v538 : BitVec 32 := Scalar.muli c2_i32_338 v519
  let c2_i32_327 : BitVec 32 := 2#32
  let v520 : BitVec 32 := Scalar.remsi v502 c2_i32_327
  let c2_i32_328 : BitVec 32 := 2#32
  let v521 : BitVec 32 := Scalar.remsi v519 c2_i32_328
  let v522 : BitVec 32 := Scalar.xori v520 v521
  let c2_i32_339 : BitVec 32 := 2#32
  let v539 : BitVec 32 := Scalar.remsi v519 c2_i32_339
  let v540 : BitVec 32 := Scalar.xori v522 v539
  let v541 : BitVec 32 := Scalar.addi v538 v540
  let v543 : BitVec 32 := Scalar.addi v542 v541
  let c1_i32_375 : BitVec 32 := 1#32
  let v602 : BitVec 32 := Scalar.muli v543 c1_i32_375
  let v603 : BitVec 32 := Scalar.addi c0_i32_376 v602
  v603.toNat
def k0_dev4 (d482 : Dev nD) : Nat :=
  let c0_i32_379 : BitVec 32 := 0#32
  let c8_i32_344 : BitVec 32 := 8#32
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32 : BitVec 32 := 0#32
  let v486 : BitVec 1 := Scalar.cmpi .sgt v484 c0_i32
  let v487 : BitVec 32 := Scalar.extui v486
  let c0_i32_315 : BitVec 32 := 0#32
  let v488 : BitVec 1 := Scalar.cmpi .slt v484 c0_i32_315
  let v489 : BitVec 32 := Scalar.extui v488
  let v490 : BitVec 32 := Scalar.subi v487 v489
  let c8_i32 : BitVec 32 := 8#32
  let c0_i32_316 : BitVec 32 := 0#32
  let v491 : BitVec 1 := Scalar.cmpi .sgt c8_i32 c0_i32_316
  let v492 : BitVec 32 := Scalar.extui v491
  let c0_i32_317 : BitVec 32 := 0#32
  let v493 : BitVec 1 := Scalar.cmpi .slt c8_i32 c0_i32_317
  let v494 : BitVec 32 := Scalar.extui v493
  let v495 : BitVec 32 := Scalar.subi v492 v494
  let v496 : BitVec 1 := Scalar.cmpi .ne v490 v495
  let v497 : BitVec 32 := Scalar.remsi v484 c8_i32
  let c0_i32_318 : BitVec 32 := 0#32
  let v498 : BitVec 1 := Scalar.cmpi .ne v497 c0_i32_318
  let v499 : BitVec 1 := Scalar.andi v496 v498
  let v485 : BitVec 32 := Scalar.divsi v484 c8_i32
  let c1_i32_319 : BitVec 32 := 1#32
  let v500 : BitVec 32 := Scalar.subi v485 c1_i32_319
  let v501 : BitVec 32 := Scalar.select v499 v500 v485
  let v549 : BitVec 32 := Scalar.muli c8_i32_344 v501
  let c2_i32_342 : BitVec 32 := 2#32
  let c8_i32_320 : BitVec 32 := 8#32
  let v502 : BitVec 32 := Scalar.remsi v484 c8_i32_320
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let c2_i32_341 : BitVec 32 := 2#32
  let v544 : BitVec 32 := Scalar.xori v519 c2_i32_341
  let v545 : BitVec 32 := Scalar.muli c2_i32_342 v544
  let c2_i32_327 : BitVec 32 := 2#32
  let v520 : BitVec 32 := Scalar.remsi v502 c2_i32_327
  let c2_i32_328 : BitVec 32 := 2#32
  let v521 : BitVec 32 := Scalar.remsi v519 c2_i32_328
  let v522 : BitVec 32 := Scalar.xori v520 v521
  let c2_i32_343 : BitVec 32 := 2#32
  let v546 : BitVec 32 := Scalar.remsi v544 c2_i32_343
  let v547 : BitVec 32 := Scalar.xori v522 v546
  let v548 : BitVec 32 := Scalar.addi v545 v547
  let v550 : BitVec 32 := Scalar.addi v549 v548
  let c1_i32_378 : BitVec 32 := 1#32
  let v604 : BitVec 32 := Scalar.muli v550 c1_i32_378
  let v605 : BitVec 32 := Scalar.addi c0_i32_379 v604
  v605.toNat
def k0_dev5 (d482 : Dev nD) : Nat :=
  let c0_i32_382 : BitVec 32 := 0#32
  let c8_i32_348 : BitVec 32 := 8#32
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32 : BitVec 32 := 0#32
  let v486 : BitVec 1 := Scalar.cmpi .sgt v484 c0_i32
  let v487 : BitVec 32 := Scalar.extui v486
  let c0_i32_315 : BitVec 32 := 0#32
  let v488 : BitVec 1 := Scalar.cmpi .slt v484 c0_i32_315
  let v489 : BitVec 32 := Scalar.extui v488
  let v490 : BitVec 32 := Scalar.subi v487 v489
  let c8_i32 : BitVec 32 := 8#32
  let c0_i32_316 : BitVec 32 := 0#32
  let v491 : BitVec 1 := Scalar.cmpi .sgt c8_i32 c0_i32_316
  let v492 : BitVec 32 := Scalar.extui v491
  let c0_i32_317 : BitVec 32 := 0#32
  let v493 : BitVec 1 := Scalar.cmpi .slt c8_i32 c0_i32_317
  let v494 : BitVec 32 := Scalar.extui v493
  let v495 : BitVec 32 := Scalar.subi v492 v494
  let v496 : BitVec 1 := Scalar.cmpi .ne v490 v495
  let v497 : BitVec 32 := Scalar.remsi v484 c8_i32
  let c0_i32_318 : BitVec 32 := 0#32
  let v498 : BitVec 1 := Scalar.cmpi .ne v497 c0_i32_318
  let v499 : BitVec 1 := Scalar.andi v496 v498
  let v485 : BitVec 32 := Scalar.divsi v484 c8_i32
  let c1_i32_319 : BitVec 32 := 1#32
  let v500 : BitVec 32 := Scalar.subi v485 c1_i32_319
  let v501 : BitVec 32 := Scalar.select v499 v500 v485
  let c2_i32_345 : BitVec 32 := 2#32
  let v551 : BitVec 32 := Scalar.xori v501 c2_i32_345
  let v556 : BitVec 32 := Scalar.muli c8_i32_348 v551
  let c2_i32_346 : BitVec 32 := 2#32
  let c8_i32_320 : BitVec 32 := 8#32
  let v502 : BitVec 32 := Scalar.remsi v484 c8_i32_320
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let v552 : BitVec 32 := Scalar.muli c2_i32_346 v519
  let c2_i32_327 : BitVec 32 := 2#32
  let v520 : BitVec 32 := Scalar.remsi v502 c2_i32_327
  let c2_i32_328 : BitVec 32 := 2#32
  let v521 : BitVec 32 := Scalar.remsi v519 c2_i32_328
  let v522 : BitVec 32 := Scalar.xori v520 v521
  let c2_i32_347 : BitVec 32 := 2#32
  let v553 : BitVec 32 := Scalar.remsi v519 c2_i32_347
  let v554 : BitVec 32 := Scalar.xori v522 v553
  let v555 : BitVec 32 := Scalar.addi v552 v554
  let v557 : BitVec 32 := Scalar.addi v556 v555
  let c1_i32_381 : BitVec 32 := 1#32
  let v606 : BitVec 32 := Scalar.muli v557 c1_i32_381
  let v607 : BitVec 32 := Scalar.addi c0_i32_382 v606
  v607.toNat
def k0_off1 (d482 : Dev nD) : Fin 2 → Nat :=
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32_383 : BitVec 32 := 0#32
  let v608 : BitVec 32 := Scalar.muli v484 c0_i32_383
  let c1_i32_384 : BitVec 32 := 1#32
  let c8_i32_320 : BitVec 32 := 8#32
  let v502 : BitVec 32 := Scalar.remsi v484 c8_i32_320
  let c2_i32_327 : BitVec 32 := 2#32
  let v520 : BitVec 32 := Scalar.remsi v502 c2_i32_327
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let c2_i32_328 : BitVec 32 := 2#32
  let v521 : BitVec 32 := Scalar.remsi v519 c2_i32_328
  let v522 : BitVec 32 := Scalar.xori v520 v521
  let c2_i32_349 : BitVec 32 := 2#32
  let v558 : BitVec 32 := Scalar.remsi v522 c2_i32_349
  let v609 : BitVec 32 := Scalar.subi c1_i32_384 v558
  let c512_i32 : BitVec 32 := 512#32
  let v610 : BitVec 32 := Scalar.muli v609 c512_i32
  let v611 : BitVec 32 := Scalar.addi v608 v610
  let v614 : Index := Scalar.indexCast v611
  let c0_386 : Index := 0#32
  ![v614.toNat, 0]
def k0_dev6 (d482 : Dev nD) : Nat :=
  let c0_i32_392 : BitVec 32 := 0#32
  let c8_i32_332 : BitVec 32 := 8#32
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32 : BitVec 32 := 0#32
  let v486 : BitVec 1 := Scalar.cmpi .sgt v484 c0_i32
  let v487 : BitVec 32 := Scalar.extui v486
  let c0_i32_315 : BitVec 32 := 0#32
  let v488 : BitVec 1 := Scalar.cmpi .slt v484 c0_i32_315
  let v489 : BitVec 32 := Scalar.extui v488
  let v490 : BitVec 32 := Scalar.subi v487 v489
  let c8_i32 : BitVec 32 := 8#32
  let c0_i32_316 : BitVec 32 := 0#32
  let v491 : BitVec 1 := Scalar.cmpi .sgt c8_i32 c0_i32_316
  let v492 : BitVec 32 := Scalar.extui v491
  let c0_i32_317 : BitVec 32 := 0#32
  let v493 : BitVec 1 := Scalar.cmpi .slt c8_i32 c0_i32_317
  let v494 : BitVec 32 := Scalar.extui v493
  let v495 : BitVec 32 := Scalar.subi v492 v494
  let v496 : BitVec 1 := Scalar.cmpi .ne v490 v495
  let v497 : BitVec 32 := Scalar.remsi v484 c8_i32
  let c0_i32_318 : BitVec 32 := 0#32
  let v498 : BitVec 1 := Scalar.cmpi .ne v497 c0_i32_318
  let v499 : BitVec 1 := Scalar.andi v496 v498
  let v485 : BitVec 32 := Scalar.divsi v484 c8_i32
  let c1_i32_319 : BitVec 32 := 1#32
  let v500 : BitVec 32 := Scalar.subi v485 c1_i32_319
  let v501 : BitVec 32 := Scalar.select v499 v500 v485
  let v528 : BitVec 32 := Scalar.muli c8_i32_332 v501
  let c2_i32_330 : BitVec 32 := 2#32
  let c8_i32_320 : BitVec 32 := 8#32
  let v502 : BitVec 32 := Scalar.remsi v484 c8_i32_320
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let v524 : BitVec 32 := Scalar.muli c2_i32_330 v519
  let c2_i32_327 : BitVec 32 := 2#32
  let v520 : BitVec 32 := Scalar.remsi v502 c2_i32_327
  let c2_i32_328 : BitVec 32 := 2#32
  let v521 : BitVec 32 := Scalar.remsi v519 c2_i32_328
  let v522 : BitVec 32 := Scalar.xori v520 v521
  let c1_i32_329 : BitVec 32 := 1#32
  let v523 : BitVec 32 := Scalar.xori v522 c1_i32_329
  let c2_i32_331 : BitVec 32 := 2#32
  let v525 : BitVec 32 := Scalar.remsi v519 c2_i32_331
  let v526 : BitVec 32 := Scalar.xori v523 v525
  let v527 : BitVec 32 := Scalar.addi v524 v526
  let v529 : BitVec 32 := Scalar.addi v528 v527
  let c1_i32_391 : BitVec 32 := 1#32
  let v620 : BitVec 32 := Scalar.muli v529 c1_i32_391
  let v621 : BitVec 32 := Scalar.addi c0_i32_392 v620
  v621.toNat
def k0_off2 (d482 : Dev nD) : Fin 2 → Nat :=
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32_383 : BitVec 32 := 0#32
  let v608 : BitVec 32 := Scalar.muli v484 c0_i32_383
  let c8_i32_320 : BitVec 32 := 8#32
  let v502 : BitVec 32 := Scalar.remsi v484 c8_i32_320
  let c2_i32_327 : BitVec 32 := 2#32
  let v520 : BitVec 32 := Scalar.remsi v502 c2_i32_327
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let c2_i32_328 : BitVec 32 := 2#32
  let v521 : BitVec 32 := Scalar.remsi v519 c2_i32_328
  let v522 : BitVec 32 := Scalar.xori v520 v521
  let c2_i32_349 : BitVec 32 := 2#32
  let v558 : BitVec 32 := Scalar.remsi v522 c2_i32_349
  let c512_i32_385 : BitVec 32 := 512#32
  let v612 : BitVec 32 := Scalar.muli v558 c512_i32_385
  let v613 : BitVec 32 := Scalar.addi v608 v612
  let v638 : Index := Scalar.indexCast v613
  let c0_412 : Index := 0#32
  ![v638.toNat, 0]
def k0_off3 (d482 : Dev nD) : Fin 2 → Nat :=
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32_383 : BitVec 32 := 0#32
  let v608 : BitVec 32 := Scalar.muli v484 c0_i32_383
  let c8_i32_320 : BitVec 32 := 8#32
  let v502 : BitVec 32 := Scalar.remsi v484 c8_i32_320
  let c2_i32_327 : BitVec 32 := 2#32
  let v520 : BitVec 32 := Scalar.remsi v502 c2_i32_327
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let c2_i32_328 : BitVec 32 := 2#32
  let v521 : BitVec 32 := Scalar.remsi v519 c2_i32_328
  let v522 : BitVec 32 := Scalar.xori v520 v521
  let c2_i32_349 : BitVec 32 := 2#32
  let v558 : BitVec 32 := Scalar.remsi v522 c2_i32_349
  let c512_i32_385 : BitVec 32 := 512#32
  let v612 : BitVec 32 := Scalar.muli v558 c512_i32_385
  let v613 : BitVec 32 := Scalar.addi v608 v612
  let c1_i32_416 : BitVec 32 := 1#32
  let c2_i32_350 : BitVec 32 := 2#32
  let v559 : BitVec 32 := Scalar.remsi v519 c2_i32_350
  let v647 : BitVec 32 := Scalar.subi c1_i32_416 v559
  let c256_i32 : BitVec 32 := 256#32
  let v648 : BitVec 32 := Scalar.muli v647 c256_i32
  let v649 : BitVec 32 := Scalar.addi v613 v648
  let v652 : Index := Scalar.indexCast v649
  let c0_418 : Index := 0#32
  ![v652.toNat, 0]
def k0_dev7 (d482 : Dev nD) : Nat :=
  let c0_i32_424 : BitVec 32 := 0#32
  let c8_i32_336 : BitVec 32 := 8#32
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32 : BitVec 32 := 0#32
  let v486 : BitVec 1 := Scalar.cmpi .sgt v484 c0_i32
  let v487 : BitVec 32 := Scalar.extui v486
  let c0_i32_315 : BitVec 32 := 0#32
  let v488 : BitVec 1 := Scalar.cmpi .slt v484 c0_i32_315
  let v489 : BitVec 32 := Scalar.extui v488
  let v490 : BitVec 32 := Scalar.subi v487 v489
  let c8_i32 : BitVec 32 := 8#32
  let c0_i32_316 : BitVec 32 := 0#32
  let v491 : BitVec 1 := Scalar.cmpi .sgt c8_i32 c0_i32_316
  let v492 : BitVec 32 := Scalar.extui v491
  let c0_i32_317 : BitVec 32 := 0#32
  let v493 : BitVec 1 := Scalar.cmpi .slt c8_i32 c0_i32_317
  let v494 : BitVec 32 := Scalar.extui v493
  let v495 : BitVec 32 := Scalar.subi v492 v494
  let v496 : BitVec 1 := Scalar.cmpi .ne v490 v495
  let v497 : BitVec 32 := Scalar.remsi v484 c8_i32
  let c0_i32_318 : BitVec 32 := 0#32
  let v498 : BitVec 1 := Scalar.cmpi .ne v497 c0_i32_318
  let v499 : BitVec 1 := Scalar.andi v496 v498
  let v485 : BitVec 32 := Scalar.divsi v484 c8_i32
  let c1_i32_319 : BitVec 32 := 1#32
  let v500 : BitVec 32 := Scalar.subi v485 c1_i32_319
  let v501 : BitVec 32 := Scalar.select v499 v500 v485
  let v535 : BitVec 32 := Scalar.muli c8_i32_336 v501
  let c2_i32_334 : BitVec 32 := 2#32
  let c8_i32_320 : BitVec 32 := 8#32
  let v502 : BitVec 32 := Scalar.remsi v484 c8_i32_320
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let c1_i32_333 : BitVec 32 := 1#32
  let v530 : BitVec 32 := Scalar.xori v519 c1_i32_333
  let v531 : BitVec 32 := Scalar.muli c2_i32_334 v530
  let c2_i32_327 : BitVec 32 := 2#32
  let v520 : BitVec 32 := Scalar.remsi v502 c2_i32_327
  let c2_i32_328 : BitVec 32 := 2#32
  let v521 : BitVec 32 := Scalar.remsi v519 c2_i32_328
  let v522 : BitVec 32 := Scalar.xori v520 v521
  let c2_i32_335 : BitVec 32 := 2#32
  let v532 : BitVec 32 := Scalar.remsi v530 c2_i32_335
  let v533 : BitVec 32 := Scalar.xori v522 v532
  let v534 : BitVec 32 := Scalar.addi v531 v533
  let v536 : BitVec 32 := Scalar.addi v535 v534
  let c1_i32_423 : BitVec 32 := 1#32
  let v658 : BitVec 32 := Scalar.muli v536 c1_i32_423
  let v659 : BitVec 32 := Scalar.addi c0_i32_424 v658
  v659.toNat
def k0_off4 (d482 : Dev nD) : Fin 2 → Nat :=
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32_383 : BitVec 32 := 0#32
  let v608 : BitVec 32 := Scalar.muli v484 c0_i32_383
  let c8_i32_320 : BitVec 32 := 8#32
  let v502 : BitVec 32 := Scalar.remsi v484 c8_i32_320
  let c2_i32_327 : BitVec 32 := 2#32
  let v520 : BitVec 32 := Scalar.remsi v502 c2_i32_327
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let c2_i32_328 : BitVec 32 := 2#32
  let v521 : BitVec 32 := Scalar.remsi v519 c2_i32_328
  let v522 : BitVec 32 := Scalar.xori v520 v521
  let c2_i32_349 : BitVec 32 := 2#32
  let v558 : BitVec 32 := Scalar.remsi v522 c2_i32_349
  let c512_i32_385 : BitVec 32 := 512#32
  let v612 : BitVec 32 := Scalar.muli v558 c512_i32_385
  let v613 : BitVec 32 := Scalar.addi v608 v612
  let c2_i32_350 : BitVec 32 := 2#32
  let v559 : BitVec 32 := Scalar.remsi v519 c2_i32_350
  let c256_i32_417 : BitVec 32 := 256#32
  let v650 : BitVec 32 := Scalar.muli v559 c256_i32_417
  let v651 : BitVec 32 := Scalar.addi v613 v650
  let v676 : Index := Scalar.indexCast v651
  let c0_444 : Index := 0#32
  ![v676.toNat, 0]
def k0_off5 (d482 : Dev nD) : Fin 2 → Nat :=
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32_383 : BitVec 32 := 0#32
  let v608 : BitVec 32 := Scalar.muli v484 c0_i32_383
  let c8_i32_320 : BitVec 32 := 8#32
  let v502 : BitVec 32 := Scalar.remsi v484 c8_i32_320
  let c2_i32_327 : BitVec 32 := 2#32
  let v520 : BitVec 32 := Scalar.remsi v502 c2_i32_327
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let c2_i32_328 : BitVec 32 := 2#32
  let v521 : BitVec 32 := Scalar.remsi v519 c2_i32_328
  let v522 : BitVec 32 := Scalar.xori v520 v521
  let c2_i32_349 : BitVec 32 := 2#32
  let v558 : BitVec 32 := Scalar.remsi v522 c2_i32_349
  let c512_i32_385 : BitVec 32 := 512#32
  let v612 : BitVec 32 := Scalar.muli v558 c512_i32_385
  let v613 : BitVec 32 := Scalar.addi v608 v612
  let c2_i32_350 : BitVec 32 := 2#32
  let v559 : BitVec 32 := Scalar.remsi v519 c2_i32_350
  let c256_i32_417 : BitVec 32 := 256#32
  let v650 : BitVec 32 := Scalar.muli v559 c256_i32_417
  let v651 : BitVec 32 := Scalar.addi v613 v650
  let c1_i32_448 : BitVec 32 := 1#32
  let c0_i32 : BitVec 32 := 0#32
  let v486 : BitVec 1 := Scalar.cmpi .sgt v484 c0_i32
  let v487 : BitVec 32 := Scalar.extui v486
  let c0_i32_315 : BitVec 32 := 0#32
  let v488 : BitVec 1 := Scalar.cmpi .slt v484 c0_i32_315
  let v489 : BitVec 32 := Scalar.extui v488
  let v490 : BitVec 32 := Scalar.subi v487 v489
  let c8_i32 : BitVec 32 := 8#32
  let c0_i32_316 : BitVec 32 := 0#32
  let v491 : BitVec 1 := Scalar.cmpi .sgt c8_i32 c0_i32_316
  let v492 : BitVec 32 := Scalar.extui v491
  let c0_i32_317 : BitVec 32 := 0#32
  let v493 : BitVec 1 := Scalar.cmpi .slt c8_i32 c0_i32_317
  let v494 : BitVec 32 := Scalar.extui v493
  let v495 : BitVec 32 := Scalar.subi v492 v494
  let v496 : BitVec 1 := Scalar.cmpi .ne v490 v495
  let v497 : BitVec 32 := Scalar.remsi v484 c8_i32
  let c0_i32_318 : BitVec 32 := 0#32
  let v498 : BitVec 1 := Scalar.cmpi .ne v497 c0_i32_318
  let v499 : BitVec 1 := Scalar.andi v496 v498
  let v485 : BitVec 32 := Scalar.divsi v484 c8_i32
  let c1_i32_319 : BitVec 32 := 1#32
  let v500 : BitVec 32 := Scalar.subi v485 c1_i32_319
  let v501 : BitVec 32 := Scalar.select v499 v500 v485
  let c2_i32_351 : BitVec 32 := 2#32
  let v560 : BitVec 32 := Scalar.remsi v501 c2_i32_351
  let v685 : BitVec 32 := Scalar.subi c1_i32_448 v560
  let c128_i32_449 : BitVec 32 := 128#32
  let v686 : BitVec 32 := Scalar.muli v685 c128_i32_449
  let v687 : BitVec 32 := Scalar.addi v651 v686
  let v690 : Index := Scalar.indexCast v687
  let c0_451 : Index := 0#32
  ![v690.toNat, 0]
def k0_dev8 (d482 : Dev nD) : Nat :=
  let c0_i32_457 : BitVec 32 := 0#32
  let c8_i32_340 : BitVec 32 := 8#32
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32 : BitVec 32 := 0#32
  let v486 : BitVec 1 := Scalar.cmpi .sgt v484 c0_i32
  let v487 : BitVec 32 := Scalar.extui v486
  let c0_i32_315 : BitVec 32 := 0#32
  let v488 : BitVec 1 := Scalar.cmpi .slt v484 c0_i32_315
  let v489 : BitVec 32 := Scalar.extui v488
  let v490 : BitVec 32 := Scalar.subi v487 v489
  let c8_i32 : BitVec 32 := 8#32
  let c0_i32_316 : BitVec 32 := 0#32
  let v491 : BitVec 1 := Scalar.cmpi .sgt c8_i32 c0_i32_316
  let v492 : BitVec 32 := Scalar.extui v491
  let c0_i32_317 : BitVec 32 := 0#32
  let v493 : BitVec 1 := Scalar.cmpi .slt c8_i32 c0_i32_317
  let v494 : BitVec 32 := Scalar.extui v493
  let v495 : BitVec 32 := Scalar.subi v492 v494
  let v496 : BitVec 1 := Scalar.cmpi .ne v490 v495
  let v497 : BitVec 32 := Scalar.remsi v484 c8_i32
  let c0_i32_318 : BitVec 32 := 0#32
  let v498 : BitVec 1 := Scalar.cmpi .ne v497 c0_i32_318
  let v499 : BitVec 1 := Scalar.andi v496 v498
  let v485 : BitVec 32 := Scalar.divsi v484 c8_i32
  let c1_i32_319 : BitVec 32 := 1#32
  let v500 : BitVec 32 := Scalar.subi v485 c1_i32_319
  let v501 : BitVec 32 := Scalar.select v499 v500 v485
  let c1_i32_337 : BitVec 32 := 1#32
  let v537 : BitVec 32 := Scalar.xori v501 c1_i32_337
  let v542 : BitVec 32 := Scalar.muli c8_i32_340 v537
  let c2_i32_338 : BitVec 32 := 2#32
  let c8_i32_320 : BitVec 32 := 8#32
  let v502 : BitVec 32 := Scalar.remsi v484 c8_i32_320
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let v538 : BitVec 32 := Scalar.muli c2_i32_338 v519
  let c2_i32_327 : BitVec 32 := 2#32
  let v520 : BitVec 32 := Scalar.remsi v502 c2_i32_327
  let c2_i32_328 : BitVec 32 := 2#32
  let v521 : BitVec 32 := Scalar.remsi v519 c2_i32_328
  let v522 : BitVec 32 := Scalar.xori v520 v521
  let c2_i32_339 : BitVec 32 := 2#32
  let v539 : BitVec 32 := Scalar.remsi v519 c2_i32_339
  let v540 : BitVec 32 := Scalar.xori v522 v539
  let v541 : BitVec 32 := Scalar.addi v538 v540
  let v543 : BitVec 32 := Scalar.addi v542 v541
  let c1_i32_456 : BitVec 32 := 1#32
  let v696 : BitVec 32 := Scalar.muli v543 c1_i32_456
  let v697 : BitVec 32 := Scalar.addi c0_i32_457 v696
  v697.toNat
def k0_off6 (d482 : Dev nD) : Fin 2 → Nat :=
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32_383 : BitVec 32 := 0#32
  let v608 : BitVec 32 := Scalar.muli v484 c0_i32_383
  let c8_i32_320 : BitVec 32 := 8#32
  let v502 : BitVec 32 := Scalar.remsi v484 c8_i32_320
  let c2_i32_327 : BitVec 32 := 2#32
  let v520 : BitVec 32 := Scalar.remsi v502 c2_i32_327
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let c2_i32_328 : BitVec 32 := 2#32
  let v521 : BitVec 32 := Scalar.remsi v519 c2_i32_328
  let v522 : BitVec 32 := Scalar.xori v520 v521
  let c2_i32_349 : BitVec 32 := 2#32
  let v558 : BitVec 32 := Scalar.remsi v522 c2_i32_349
  let c512_i32_385 : BitVec 32 := 512#32
  let v612 : BitVec 32 := Scalar.muli v558 c512_i32_385
  let v613 : BitVec 32 := Scalar.addi v608 v612
  let c2_i32_350 : BitVec 32 := 2#32
  let v559 : BitVec 32 := Scalar.remsi v519 c2_i32_350
  let c256_i32_417 : BitVec 32 := 256#32
  let v650 : BitVec 32 := Scalar.muli v559 c256_i32_417
  let v651 : BitVec 32 := Scalar.addi v613 v650
  let c0_i32 : BitVec 32 := 0#32
  let v486 : BitVec 1 := Scalar.cmpi .sgt v484 c0_i32
  let v487 : BitVec 32 := Scalar.extui v486
  let c0_i32_315 : BitVec 32 := 0#32
  let v488 : BitVec 1 := Scalar.cmpi .slt v484 c0_i32_315
  let v489 : BitVec 32 := Scalar.extui v488
  let v490 : BitVec 32 := Scalar.subi v487 v489
  let c8_i32 : BitVec 32 := 8#32
  let c0_i32_316 : BitVec 32 := 0#32
  let v491 : BitVec 1 := Scalar.cmpi .sgt c8_i32 c0_i32_316
  let v492 : BitVec 32 := Scalar.extui v491
  let c0_i32_317 : BitVec 32 := 0#32
  let v493 : BitVec 1 := Scalar.cmpi .slt c8_i32 c0_i32_317
  let v494 : BitVec 32 := Scalar.extui v493
  let v495 : BitVec 32 := Scalar.subi v492 v494
  let v496 : BitVec 1 := Scalar.cmpi .ne v490 v495
  let v497 : BitVec 32 := Scalar.remsi v484 c8_i32
  let c0_i32_318 : BitVec 32 := 0#32
  let v498 : BitVec 1 := Scalar.cmpi .ne v497 c0_i32_318
  let v499 : BitVec 1 := Scalar.andi v496 v498
  let v485 : BitVec 32 := Scalar.divsi v484 c8_i32
  let c1_i32_319 : BitVec 32 := 1#32
  let v500 : BitVec 32 := Scalar.subi v485 c1_i32_319
  let v501 : BitVec 32 := Scalar.select v499 v500 v485
  let c2_i32_351 : BitVec 32 := 2#32
  let v560 : BitVec 32 := Scalar.remsi v501 c2_i32_351
  let c128_i32_450 : BitVec 32 := 128#32
  let v688 : BitVec 32 := Scalar.muli v560 c128_i32_450
  let v689 : BitVec 32 := Scalar.addi v651 v688
  let v714 : Index := Scalar.indexCast v689
  let c0_476 : Index := 0#32
  ![v714.toNat, 0]
def k0_off7 (d482 : Dev nD) : Fin 2 → Nat :=
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32_383 : BitVec 32 := 0#32
  let v608 : BitVec 32 := Scalar.muli v484 c0_i32_383
  let c8_i32_320 : BitVec 32 := 8#32
  let v502 : BitVec 32 := Scalar.remsi v484 c8_i32_320
  let c2_i32_327 : BitVec 32 := 2#32
  let v520 : BitVec 32 := Scalar.remsi v502 c2_i32_327
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let c2_i32_328 : BitVec 32 := 2#32
  let v521 : BitVec 32 := Scalar.remsi v519 c2_i32_328
  let v522 : BitVec 32 := Scalar.xori v520 v521
  let c2_i32_349 : BitVec 32 := 2#32
  let v558 : BitVec 32 := Scalar.remsi v522 c2_i32_349
  let c512_i32_385 : BitVec 32 := 512#32
  let v612 : BitVec 32 := Scalar.muli v558 c512_i32_385
  let v613 : BitVec 32 := Scalar.addi v608 v612
  let c2_i32_350 : BitVec 32 := 2#32
  let v559 : BitVec 32 := Scalar.remsi v519 c2_i32_350
  let c256_i32_417 : BitVec 32 := 256#32
  let v650 : BitVec 32 := Scalar.muli v559 c256_i32_417
  let v651 : BitVec 32 := Scalar.addi v613 v650
  let c0_i32 : BitVec 32 := 0#32
  let v486 : BitVec 1 := Scalar.cmpi .sgt v484 c0_i32
  let v487 : BitVec 32 := Scalar.extui v486
  let c0_i32_315 : BitVec 32 := 0#32
  let v488 : BitVec 1 := Scalar.cmpi .slt v484 c0_i32_315
  let v489 : BitVec 32 := Scalar.extui v488
  let v490 : BitVec 32 := Scalar.subi v487 v489
  let c8_i32 : BitVec 32 := 8#32
  let c0_i32_316 : BitVec 32 := 0#32
  let v491 : BitVec 1 := Scalar.cmpi .sgt c8_i32 c0_i32_316
  let v492 : BitVec 32 := Scalar.extui v491
  let c0_i32_317 : BitVec 32 := 0#32
  let v493 : BitVec 1 := Scalar.cmpi .slt c8_i32 c0_i32_317
  let v494 : BitVec 32 := Scalar.extui v493
  let v495 : BitVec 32 := Scalar.subi v492 v494
  let v496 : BitVec 1 := Scalar.cmpi .ne v490 v495
  let v497 : BitVec 32 := Scalar.remsi v484 c8_i32
  let c0_i32_318 : BitVec 32 := 0#32
  let v498 : BitVec 1 := Scalar.cmpi .ne v497 c0_i32_318
  let v499 : BitVec 1 := Scalar.andi v496 v498
  let v485 : BitVec 32 := Scalar.divsi v484 c8_i32
  let c1_i32_319 : BitVec 32 := 1#32
  let v500 : BitVec 32 := Scalar.subi v485 c1_i32_319
  let v501 : BitVec 32 := Scalar.select v499 v500 v485
  let c2_i32_351 : BitVec 32 := 2#32
  let v560 : BitVec 32 := Scalar.remsi v501 c2_i32_351
  let c128_i32_450 : BitVec 32 := 128#32
  let v688 : BitVec 32 := Scalar.muli v560 c128_i32_450
  let v689 : BitVec 32 := Scalar.addi v651 v688
  let c1_i32_479 : BitVec 32 := 1#32
  let c0_i32_353 : BitVec 32 := 0#32
  let v562 : BitVec 1 := Scalar.cmpi .sgt v519 c0_i32_353
  let v563 : BitVec 32 := Scalar.extui v562
  let c0_i32_354 : BitVec 32 := 0#32
  let v564 : BitVec 1 := Scalar.cmpi .slt v519 c0_i32_354
  let v565 : BitVec 32 := Scalar.extui v564
  let v566 : BitVec 32 := Scalar.subi v563 v565
  let c2_i32_352 : BitVec 32 := 2#32
  let c0_i32_355 : BitVec 32 := 0#32
  let v567 : BitVec 1 := Scalar.cmpi .sgt c2_i32_352 c0_i32_355
  let v568 : BitVec 32 := Scalar.extui v567
  let c0_i32_356 : BitVec 32 := 0#32
  let v569 : BitVec 1 := Scalar.cmpi .slt c2_i32_352 c0_i32_356
  let v570 : BitVec 32 := Scalar.extui v569
  let v571 : BitVec 32 := Scalar.subi v568 v570
  let v572 : BitVec 1 := Scalar.cmpi .ne v566 v571
  let v573 : BitVec 32 := Scalar.remsi v519 c2_i32_352
  let c0_i32_357 : BitVec 32 := 0#32
  let v574 : BitVec 1 := Scalar.cmpi .ne v573 c0_i32_357
  let v575 : BitVec 1 := Scalar.andi v572 v574
  let v561 : BitVec 32 := Scalar.divsi v519 c2_i32_352
  let c1_i32_358 : BitVec 32 := 1#32
  let v576 : BitVec 32 := Scalar.subi v561 c1_i32_358
  let v577 : BitVec 32 := Scalar.select v575 v576 v561
  let c2_i32_359 : BitVec 32 := 2#32
  let v578 : BitVec 32 := Scalar.remsi v577 c2_i32_359
  let v723 : BitVec 32 := Scalar.subi c1_i32_479 v578
  let c64_i32 : BitVec 32 := 64#32
  let v724 : BitVec 32 := Scalar.muli v723 c64_i32
  let v725 : BitVec 32 := Scalar.addi v689 v724
  let v728 : Index := Scalar.indexCast v725
  let c0_481 : Index := 0#32
  ![v728.toNat, 0]
def k0_dev9 (d482 : Dev nD) : Nat :=
  let c0_i32_486 : BitVec 32 := 0#32
  let c8_i32_344 : BitVec 32 := 8#32
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32 : BitVec 32 := 0#32
  let v486 : BitVec 1 := Scalar.cmpi .sgt v484 c0_i32
  let v487 : BitVec 32 := Scalar.extui v486
  let c0_i32_315 : BitVec 32 := 0#32
  let v488 : BitVec 1 := Scalar.cmpi .slt v484 c0_i32_315
  let v489 : BitVec 32 := Scalar.extui v488
  let v490 : BitVec 32 := Scalar.subi v487 v489
  let c8_i32 : BitVec 32 := 8#32
  let c0_i32_316 : BitVec 32 := 0#32
  let v491 : BitVec 1 := Scalar.cmpi .sgt c8_i32 c0_i32_316
  let v492 : BitVec 32 := Scalar.extui v491
  let c0_i32_317 : BitVec 32 := 0#32
  let v493 : BitVec 1 := Scalar.cmpi .slt c8_i32 c0_i32_317
  let v494 : BitVec 32 := Scalar.extui v493
  let v495 : BitVec 32 := Scalar.subi v492 v494
  let v496 : BitVec 1 := Scalar.cmpi .ne v490 v495
  let v497 : BitVec 32 := Scalar.remsi v484 c8_i32
  let c0_i32_318 : BitVec 32 := 0#32
  let v498 : BitVec 1 := Scalar.cmpi .ne v497 c0_i32_318
  let v499 : BitVec 1 := Scalar.andi v496 v498
  let v485 : BitVec 32 := Scalar.divsi v484 c8_i32
  let c1_i32_319 : BitVec 32 := 1#32
  let v500 : BitVec 32 := Scalar.subi v485 c1_i32_319
  let v501 : BitVec 32 := Scalar.select v499 v500 v485
  let v549 : BitVec 32 := Scalar.muli c8_i32_344 v501
  let c2_i32_342 : BitVec 32 := 2#32
  let c8_i32_320 : BitVec 32 := 8#32
  let v502 : BitVec 32 := Scalar.remsi v484 c8_i32_320
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let c2_i32_341 : BitVec 32 := 2#32
  let v544 : BitVec 32 := Scalar.xori v519 c2_i32_341
  let v545 : BitVec 32 := Scalar.muli c2_i32_342 v544
  let c2_i32_327 : BitVec 32 := 2#32
  let v520 : BitVec 32 := Scalar.remsi v502 c2_i32_327
  let c2_i32_328 : BitVec 32 := 2#32
  let v521 : BitVec 32 := Scalar.remsi v519 c2_i32_328
  let v522 : BitVec 32 := Scalar.xori v520 v521
  let c2_i32_343 : BitVec 32 := 2#32
  let v546 : BitVec 32 := Scalar.remsi v544 c2_i32_343
  let v547 : BitVec 32 := Scalar.xori v522 v546
  let v548 : BitVec 32 := Scalar.addi v545 v547
  let v550 : BitVec 32 := Scalar.addi v549 v548
  let c1_i32_485 : BitVec 32 := 1#32
  let v734 : BitVec 32 := Scalar.muli v550 c1_i32_485
  let v735 : BitVec 32 := Scalar.addi c0_i32_486 v734
  v735.toNat
def k0_off8 (d482 : Dev nD) : Fin 2 → Nat :=
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32_383 : BitVec 32 := 0#32
  let v608 : BitVec 32 := Scalar.muli v484 c0_i32_383
  let c8_i32_320 : BitVec 32 := 8#32
  let v502 : BitVec 32 := Scalar.remsi v484 c8_i32_320
  let c2_i32_327 : BitVec 32 := 2#32
  let v520 : BitVec 32 := Scalar.remsi v502 c2_i32_327
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let c2_i32_328 : BitVec 32 := 2#32
  let v521 : BitVec 32 := Scalar.remsi v519 c2_i32_328
  let v522 : BitVec 32 := Scalar.xori v520 v521
  let c2_i32_349 : BitVec 32 := 2#32
  let v558 : BitVec 32 := Scalar.remsi v522 c2_i32_349
  let c512_i32_385 : BitVec 32 := 512#32
  let v612 : BitVec 32 := Scalar.muli v558 c512_i32_385
  let v613 : BitVec 32 := Scalar.addi v608 v612
  let c2_i32_350 : BitVec 32 := 2#32
  let v559 : BitVec 32 := Scalar.remsi v519 c2_i32_350
  let c256_i32_417 : BitVec 32 := 256#32
  let v650 : BitVec 32 := Scalar.muli v559 c256_i32_417
  let v651 : BitVec 32 := Scalar.addi v613 v650
  let c0_i32 : BitVec 32 := 0#32
  let v486 : BitVec 1 := Scalar.cmpi .sgt v484 c0_i32
  let v487 : BitVec 32 := Scalar.extui v486
  let c0_i32_315 : BitVec 32 := 0#32
  let v488 : BitVec 1 := Scalar.cmpi .slt v484 c0_i32_315
  let v489 : BitVec 32 := Scalar.extui v488
  let v490 : BitVec 32 := Scalar.subi v487 v489
  let c8_i32 : BitVec 32 := 8#32
  let c0_i32_316 : BitVec 32 := 0#32
  let v491 : BitVec 1 := Scalar.cmpi .sgt c8_i32 c0_i32_316
  let v492 : BitVec 32 := Scalar.extui v491
  let c0_i32_317 : BitVec 32 := 0#32
  let v493 : BitVec 1 := Scalar.cmpi .slt c8_i32 c0_i32_317
  let v494 : BitVec 32 := Scalar.extui v493
  let v495 : BitVec 32 := Scalar.subi v492 v494
  let v496 : BitVec 1 := Scalar.cmpi .ne v490 v495
  let v497 : BitVec 32 := Scalar.remsi v484 c8_i32
  let c0_i32_318 : BitVec 32 := 0#32
  let v498 : BitVec 1 := Scalar.cmpi .ne v497 c0_i32_318
  let v499 : BitVec 1 := Scalar.andi v496 v498
  let v485 : BitVec 32 := Scalar.divsi v484 c8_i32
  let c1_i32_319 : BitVec 32 := 1#32
  let v500 : BitVec 32 := Scalar.subi v485 c1_i32_319
  let v501 : BitVec 32 := Scalar.select v499 v500 v485
  let c2_i32_351 : BitVec 32 := 2#32
  let v560 : BitVec 32 := Scalar.remsi v501 c2_i32_351
  let c128_i32_450 : BitVec 32 := 128#32
  let v688 : BitVec 32 := Scalar.muli v560 c128_i32_450
  let v689 : BitVec 32 := Scalar.addi v651 v688
  let c0_i32_353 : BitVec 32 := 0#32
  let v562 : BitVec 1 := Scalar.cmpi .sgt v519 c0_i32_353
  let v563 : BitVec 32 := Scalar.extui v562
  let c0_i32_354 : BitVec 32 := 0#32
  let v564 : BitVec 1 := Scalar.cmpi .slt v519 c0_i32_354
  let v565 : BitVec 32 := Scalar.extui v564
  let v566 : BitVec 32 := Scalar.subi v563 v565
  let c2_i32_352 : BitVec 32 := 2#32
  let c0_i32_355 : BitVec 32 := 0#32
  let v567 : BitVec 1 := Scalar.cmpi .sgt c2_i32_352 c0_i32_355
  let v568 : BitVec 32 := Scalar.extui v567
  let c0_i32_356 : BitVec 32 := 0#32
  let v569 : BitVec 1 := Scalar.cmpi .slt c2_i32_352 c0_i32_356
  let v570 : BitVec 32 := Scalar.extui v569
  let v571 : BitVec 32 := Scalar.subi v568 v570
  let v572 : BitVec 1 := Scalar.cmpi .ne v566 v571
  let v573 : BitVec 32 := Scalar.remsi v519 c2_i32_352
  let c0_i32_357 : BitVec 32 := 0#32
  let v574 : BitVec 1 := Scalar.cmpi .ne v573 c0_i32_357
  let v575 : BitVec 1 := Scalar.andi v572 v574
  let v561 : BitVec 32 := Scalar.divsi v519 c2_i32_352
  let c1_i32_358 : BitVec 32 := 1#32
  let v576 : BitVec 32 := Scalar.subi v561 c1_i32_358
  let v577 : BitVec 32 := Scalar.select v575 v576 v561
  let c2_i32_359 : BitVec 32 := 2#32
  let v578 : BitVec 32 := Scalar.remsi v577 c2_i32_359
  let c64_i32_480 : BitVec 32 := 64#32
  let v726 : BitVec 32 := Scalar.muli v578 c64_i32_480
  let v727 : BitVec 32 := Scalar.addi v689 v726
  let v752 : Index := Scalar.indexCast v727
  let c0_505 : Index := 0#32
  ![v752.toNat, 0]
def k0_off9 (d482 : Dev nD) : Fin 2 → Nat :=
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32_383 : BitVec 32 := 0#32
  let v608 : BitVec 32 := Scalar.muli v484 c0_i32_383
  let c8_i32_320 : BitVec 32 := 8#32
  let v502 : BitVec 32 := Scalar.remsi v484 c8_i32_320
  let c2_i32_327 : BitVec 32 := 2#32
  let v520 : BitVec 32 := Scalar.remsi v502 c2_i32_327
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let c2_i32_328 : BitVec 32 := 2#32
  let v521 : BitVec 32 := Scalar.remsi v519 c2_i32_328
  let v522 : BitVec 32 := Scalar.xori v520 v521
  let c2_i32_349 : BitVec 32 := 2#32
  let v558 : BitVec 32 := Scalar.remsi v522 c2_i32_349
  let c512_i32_385 : BitVec 32 := 512#32
  let v612 : BitVec 32 := Scalar.muli v558 c512_i32_385
  let v613 : BitVec 32 := Scalar.addi v608 v612
  let c2_i32_350 : BitVec 32 := 2#32
  let v559 : BitVec 32 := Scalar.remsi v519 c2_i32_350
  let c256_i32_417 : BitVec 32 := 256#32
  let v650 : BitVec 32 := Scalar.muli v559 c256_i32_417
  let v651 : BitVec 32 := Scalar.addi v613 v650
  let c0_i32 : BitVec 32 := 0#32
  let v486 : BitVec 1 := Scalar.cmpi .sgt v484 c0_i32
  let v487 : BitVec 32 := Scalar.extui v486
  let c0_i32_315 : BitVec 32 := 0#32
  let v488 : BitVec 1 := Scalar.cmpi .slt v484 c0_i32_315
  let v489 : BitVec 32 := Scalar.extui v488
  let v490 : BitVec 32 := Scalar.subi v487 v489
  let c8_i32 : BitVec 32 := 8#32
  let c0_i32_316 : BitVec 32 := 0#32
  let v491 : BitVec 1 := Scalar.cmpi .sgt c8_i32 c0_i32_316
  let v492 : BitVec 32 := Scalar.extui v491
  let c0_i32_317 : BitVec 32 := 0#32
  let v493 : BitVec 1 := Scalar.cmpi .slt c8_i32 c0_i32_317
  let v494 : BitVec 32 := Scalar.extui v493
  let v495 : BitVec 32 := Scalar.subi v492 v494
  let v496 : BitVec 1 := Scalar.cmpi .ne v490 v495
  let v497 : BitVec 32 := Scalar.remsi v484 c8_i32
  let c0_i32_318 : BitVec 32 := 0#32
  let v498 : BitVec 1 := Scalar.cmpi .ne v497 c0_i32_318
  let v499 : BitVec 1 := Scalar.andi v496 v498
  let v485 : BitVec 32 := Scalar.divsi v484 c8_i32
  let c1_i32_319 : BitVec 32 := 1#32
  let v500 : BitVec 32 := Scalar.subi v485 c1_i32_319
  let v501 : BitVec 32 := Scalar.select v499 v500 v485
  let c2_i32_351 : BitVec 32 := 2#32
  let v560 : BitVec 32 := Scalar.remsi v501 c2_i32_351
  let c128_i32_450 : BitVec 32 := 128#32
  let v688 : BitVec 32 := Scalar.muli v560 c128_i32_450
  let v689 : BitVec 32 := Scalar.addi v651 v688
  let c0_i32_353 : BitVec 32 := 0#32
  let v562 : BitVec 1 := Scalar.cmpi .sgt v519 c0_i32_353
  let v563 : BitVec 32 := Scalar.extui v562
  let c0_i32_354 : BitVec 32 := 0#32
  let v564 : BitVec 1 := Scalar.cmpi .slt v519 c0_i32_354
  let v565 : BitVec 32 := Scalar.extui v564
  let v566 : BitVec 32 := Scalar.subi v563 v565
  let c2_i32_352 : BitVec 32 := 2#32
  let c0_i32_355 : BitVec 32 := 0#32
  let v567 : BitVec 1 := Scalar.cmpi .sgt c2_i32_352 c0_i32_355
  let v568 : BitVec 32 := Scalar.extui v567
  let c0_i32_356 : BitVec 32 := 0#32
  let v569 : BitVec 1 := Scalar.cmpi .slt c2_i32_352 c0_i32_356
  let v570 : BitVec 32 := Scalar.extui v569
  let v571 : BitVec 32 := Scalar.subi v568 v570
  let v572 : BitVec 1 := Scalar.cmpi .ne v566 v571
  let v573 : BitVec 32 := Scalar.remsi v519 c2_i32_352
  let c0_i32_357 : BitVec 32 := 0#32
  let v574 : BitVec 1 := Scalar.cmpi .ne v573 c0_i32_357
  let v575 : BitVec 1 := Scalar.andi v572 v574
  let v561 : BitVec 32 := Scalar.divsi v519 c2_i32_352
  let c1_i32_358 : BitVec 32 := 1#32
  let v576 : BitVec 32 := Scalar.subi v561 c1_i32_358
  let v577 : BitVec 32 := Scalar.select v575 v576 v561
  let c2_i32_359 : BitVec 32 := 2#32
  let v578 : BitVec 32 := Scalar.remsi v577 c2_i32_359
  let c64_i32_480 : BitVec 32 := 64#32
  let v726 : BitVec 32 := Scalar.muli v578 c64_i32_480
  let v727 : BitVec 32 := Scalar.addi v689 v726
  let c1_i32_508 : BitVec 32 := 1#32
  let c0_i32_361 : BitVec 32 := 0#32
  let v580 : BitVec 1 := Scalar.cmpi .sgt v501 c0_i32_361
  let v581 : BitVec 32 := Scalar.extui v580
  let c0_i32_362 : BitVec 32 := 0#32
  let v582 : BitVec 1 := Scalar.cmpi .slt v501 c0_i32_362
  let v583 : BitVec 32 := Scalar.extui v582
  let v584 : BitVec 32 := Scalar.subi v581 v583
  let c2_i32_360 : BitVec 32 := 2#32
  let c0_i32_363 : BitVec 32 := 0#32
  let v585 : BitVec 1 := Scalar.cmpi .sgt c2_i32_360 c0_i32_363
  let v586 : BitVec 32 := Scalar.extui v585
  let c0_i32_364 : BitVec 32 := 0#32
  let v587 : BitVec 1 := Scalar.cmpi .slt c2_i32_360 c0_i32_364
  let v588 : BitVec 32 := Scalar.extui v587
  let v589 : BitVec 32 := Scalar.subi v586 v588
  let v590 : BitVec 1 := Scalar.cmpi .ne v584 v589
  let v591 : BitVec 32 := Scalar.remsi v501 c2_i32_360
  let c0_i32_365 : BitVec 32 := 0#32
  let v592 : BitVec 1 := Scalar.cmpi .ne v591 c0_i32_365
  let v593 : BitVec 1 := Scalar.andi v590 v592
  let v579 : BitVec 32 := Scalar.divsi v501 c2_i32_360
  let c1_i32_366 : BitVec 32 := 1#32
  let v594 : BitVec 32 := Scalar.subi v579 c1_i32_366
  let v595 : BitVec 32 := Scalar.select v593 v594 v579
  let c2_i32_367 : BitVec 32 := 2#32
  let v596 : BitVec 32 := Scalar.remsi v595 c2_i32_367
  let v761 : BitVec 32 := Scalar.subi c1_i32_508 v596
  let c32_i32_509 : BitVec 32 := 32#32
  let v762 : BitVec 32 := Scalar.muli v761 c32_i32_509
  let v763 : BitVec 32 := Scalar.addi v727 v762
  let v766 : Index := Scalar.indexCast v763
  let c0_511 : Index := 0#32
  ![v766.toNat, 0]
def k0_dev10 (d482 : Dev nD) : Nat :=
  let c0_i32_516 : BitVec 32 := 0#32
  let c8_i32_348 : BitVec 32 := 8#32
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32 : BitVec 32 := 0#32
  let v486 : BitVec 1 := Scalar.cmpi .sgt v484 c0_i32
  let v487 : BitVec 32 := Scalar.extui v486
  let c0_i32_315 : BitVec 32 := 0#32
  let v488 : BitVec 1 := Scalar.cmpi .slt v484 c0_i32_315
  let v489 : BitVec 32 := Scalar.extui v488
  let v490 : BitVec 32 := Scalar.subi v487 v489
  let c8_i32 : BitVec 32 := 8#32
  let c0_i32_316 : BitVec 32 := 0#32
  let v491 : BitVec 1 := Scalar.cmpi .sgt c8_i32 c0_i32_316
  let v492 : BitVec 32 := Scalar.extui v491
  let c0_i32_317 : BitVec 32 := 0#32
  let v493 : BitVec 1 := Scalar.cmpi .slt c8_i32 c0_i32_317
  let v494 : BitVec 32 := Scalar.extui v493
  let v495 : BitVec 32 := Scalar.subi v492 v494
  let v496 : BitVec 1 := Scalar.cmpi .ne v490 v495
  let v497 : BitVec 32 := Scalar.remsi v484 c8_i32
  let c0_i32_318 : BitVec 32 := 0#32
  let v498 : BitVec 1 := Scalar.cmpi .ne v497 c0_i32_318
  let v499 : BitVec 1 := Scalar.andi v496 v498
  let v485 : BitVec 32 := Scalar.divsi v484 c8_i32
  let c1_i32_319 : BitVec 32 := 1#32
  let v500 : BitVec 32 := Scalar.subi v485 c1_i32_319
  let v501 : BitVec 32 := Scalar.select v499 v500 v485
  let c2_i32_345 : BitVec 32 := 2#32
  let v551 : BitVec 32 := Scalar.xori v501 c2_i32_345
  let v556 : BitVec 32 := Scalar.muli c8_i32_348 v551
  let c2_i32_346 : BitVec 32 := 2#32
  let c8_i32_320 : BitVec 32 := 8#32
  let v502 : BitVec 32 := Scalar.remsi v484 c8_i32_320
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let v552 : BitVec 32 := Scalar.muli c2_i32_346 v519
  let c2_i32_327 : BitVec 32 := 2#32
  let v520 : BitVec 32 := Scalar.remsi v502 c2_i32_327
  let c2_i32_328 : BitVec 32 := 2#32
  let v521 : BitVec 32 := Scalar.remsi v519 c2_i32_328
  let v522 : BitVec 32 := Scalar.xori v520 v521
  let c2_i32_347 : BitVec 32 := 2#32
  let v553 : BitVec 32 := Scalar.remsi v519 c2_i32_347
  let v554 : BitVec 32 := Scalar.xori v522 v553
  let v555 : BitVec 32 := Scalar.addi v552 v554
  let v557 : BitVec 32 := Scalar.addi v556 v555
  let c1_i32_515 : BitVec 32 := 1#32
  let v772 : BitVec 32 := Scalar.muli v557 c1_i32_515
  let v773 : BitVec 32 := Scalar.addi c0_i32_516 v772
  v773.toNat
def k0_off10 (d482 : Dev nD) : Fin 2 → Nat :=
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32_383 : BitVec 32 := 0#32
  let v608 : BitVec 32 := Scalar.muli v484 c0_i32_383
  let c8_i32_320 : BitVec 32 := 8#32
  let v502 : BitVec 32 := Scalar.remsi v484 c8_i32_320
  let c2_i32_327 : BitVec 32 := 2#32
  let v520 : BitVec 32 := Scalar.remsi v502 c2_i32_327
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let c2_i32_328 : BitVec 32 := 2#32
  let v521 : BitVec 32 := Scalar.remsi v519 c2_i32_328
  let v522 : BitVec 32 := Scalar.xori v520 v521
  let c2_i32_349 : BitVec 32 := 2#32
  let v558 : BitVec 32 := Scalar.remsi v522 c2_i32_349
  let c512_i32_385 : BitVec 32 := 512#32
  let v612 : BitVec 32 := Scalar.muli v558 c512_i32_385
  let v613 : BitVec 32 := Scalar.addi v608 v612
  let c2_i32_350 : BitVec 32 := 2#32
  let v559 : BitVec 32 := Scalar.remsi v519 c2_i32_350
  let c256_i32_417 : BitVec 32 := 256#32
  let v650 : BitVec 32 := Scalar.muli v559 c256_i32_417
  let v651 : BitVec 32 := Scalar.addi v613 v650
  let c0_i32 : BitVec 32 := 0#32
  let v486 : BitVec 1 := Scalar.cmpi .sgt v484 c0_i32
  let v487 : BitVec 32 := Scalar.extui v486
  let c0_i32_315 : BitVec 32 := 0#32
  let v488 : BitVec 1 := Scalar.cmpi .slt v484 c0_i32_315
  let v489 : BitVec 32 := Scalar.extui v488
  let v490 : BitVec 32 := Scalar.subi v487 v489
  let c8_i32 : BitVec 32 := 8#32
  let c0_i32_316 : BitVec 32 := 0#32
  let v491 : BitVec 1 := Scalar.cmpi .sgt c8_i32 c0_i32_316
  let v492 : BitVec 32 := Scalar.extui v491
  let c0_i32_317 : BitVec 32 := 0#32
  let v493 : BitVec 1 := Scalar.cmpi .slt c8_i32 c0_i32_317
  let v494 : BitVec 32 := Scalar.extui v493
  let v495 : BitVec 32 := Scalar.subi v492 v494
  let v496 : BitVec 1 := Scalar.cmpi .ne v490 v495
  let v497 : BitVec 32 := Scalar.remsi v484 c8_i32
  let c0_i32_318 : BitVec 32 := 0#32
  let v498 : BitVec 1 := Scalar.cmpi .ne v497 c0_i32_318
  let v499 : BitVec 1 := Scalar.andi v496 v498
  let v485 : BitVec 32 := Scalar.divsi v484 c8_i32
  let c1_i32_319 : BitVec 32 := 1#32
  let v500 : BitVec 32 := Scalar.subi v485 c1_i32_319
  let v501 : BitVec 32 := Scalar.select v499 v500 v485
  let c2_i32_351 : BitVec 32 := 2#32
  let v560 : BitVec 32 := Scalar.remsi v501 c2_i32_351
  let c128_i32_450 : BitVec 32 := 128#32
  let v688 : BitVec 32 := Scalar.muli v560 c128_i32_450
  let v689 : BitVec 32 := Scalar.addi v651 v688
  let c0_i32_353 : BitVec 32 := 0#32
  let v562 : BitVec 1 := Scalar.cmpi .sgt v519 c0_i32_353
  let v563 : BitVec 32 := Scalar.extui v562
  let c0_i32_354 : BitVec 32 := 0#32
  let v564 : BitVec 1 := Scalar.cmpi .slt v519 c0_i32_354
  let v565 : BitVec 32 := Scalar.extui v564
  let v566 : BitVec 32 := Scalar.subi v563 v565
  let c2_i32_352 : BitVec 32 := 2#32
  let c0_i32_355 : BitVec 32 := 0#32
  let v567 : BitVec 1 := Scalar.cmpi .sgt c2_i32_352 c0_i32_355
  let v568 : BitVec 32 := Scalar.extui v567
  let c0_i32_356 : BitVec 32 := 0#32
  let v569 : BitVec 1 := Scalar.cmpi .slt c2_i32_352 c0_i32_356
  let v570 : BitVec 32 := Scalar.extui v569
  let v571 : BitVec 32 := Scalar.subi v568 v570
  let v572 : BitVec 1 := Scalar.cmpi .ne v566 v571
  let v573 : BitVec 32 := Scalar.remsi v519 c2_i32_352
  let c0_i32_357 : BitVec 32 := 0#32
  let v574 : BitVec 1 := Scalar.cmpi .ne v573 c0_i32_357
  let v575 : BitVec 1 := Scalar.andi v572 v574
  let v561 : BitVec 32 := Scalar.divsi v519 c2_i32_352
  let c1_i32_358 : BitVec 32 := 1#32
  let v576 : BitVec 32 := Scalar.subi v561 c1_i32_358
  let v577 : BitVec 32 := Scalar.select v575 v576 v561
  let c2_i32_359 : BitVec 32 := 2#32
  let v578 : BitVec 32 := Scalar.remsi v577 c2_i32_359
  let c64_i32_480 : BitVec 32 := 64#32
  let v726 : BitVec 32 := Scalar.muli v578 c64_i32_480
  let v727 : BitVec 32 := Scalar.addi v689 v726
  let c0_i32_361 : BitVec 32 := 0#32
  let v580 : BitVec 1 := Scalar.cmpi .sgt v501 c0_i32_361
  let v581 : BitVec 32 := Scalar.extui v580
  let c0_i32_362 : BitVec 32 := 0#32
  let v582 : BitVec 1 := Scalar.cmpi .slt v501 c0_i32_362
  let v583 : BitVec 32 := Scalar.extui v582
  let v584 : BitVec 32 := Scalar.subi v581 v583
  let c2_i32_360 : BitVec 32 := 2#32
  let c0_i32_363 : BitVec 32 := 0#32
  let v585 : BitVec 1 := Scalar.cmpi .sgt c2_i32_360 c0_i32_363
  let v586 : BitVec 32 := Scalar.extui v585
  let c0_i32_364 : BitVec 32 := 0#32
  let v587 : BitVec 1 := Scalar.cmpi .slt c2_i32_360 c0_i32_364
  let v588 : BitVec 32 := Scalar.extui v587
  let v589 : BitVec 32 := Scalar.subi v586 v588
  let v590 : BitVec 1 := Scalar.cmpi .ne v584 v589
  let v591 : BitVec 32 := Scalar.remsi v501 c2_i32_360
  let c0_i32_365 : BitVec 32 := 0#32
  let v592 : BitVec 1 := Scalar.cmpi .ne v591 c0_i32_365
  let v593 : BitVec 1 := Scalar.andi v590 v592
  let v579 : BitVec 32 := Scalar.divsi v501 c2_i32_360
  let c1_i32_366 : BitVec 32 := 1#32
  let v594 : BitVec 32 := Scalar.subi v579 c1_i32_366
  let v595 : BitVec 32 := Scalar.select v593 v594 v579
  let c2_i32_367 : BitVec 32 := 2#32
  let v596 : BitVec 32 := Scalar.remsi v595 c2_i32_367
  let c32_i32_510 : BitVec 32 := 32#32
  let v764 : BitVec 32 := Scalar.muli v596 c32_i32_510
  let v765 : BitVec 32 := Scalar.addi v727 v764
  let v790 : Index := Scalar.indexCast v765
  let c0_535 : Index := 0#32
  ![v790.toNat, 0]
def k0_off11 (d482 : Dev nD) : Fin 2 → Nat :=
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32_383 : BitVec 32 := 0#32
  let v608 : BitVec 32 := Scalar.muli v484 c0_i32_383
  let c8_i32_320 : BitVec 32 := 8#32
  let v502 : BitVec 32 := Scalar.remsi v484 c8_i32_320
  let c2_i32_327 : BitVec 32 := 2#32
  let v520 : BitVec 32 := Scalar.remsi v502 c2_i32_327
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let c2_i32_328 : BitVec 32 := 2#32
  let v521 : BitVec 32 := Scalar.remsi v519 c2_i32_328
  let v522 : BitVec 32 := Scalar.xori v520 v521
  let c2_i32_349 : BitVec 32 := 2#32
  let v558 : BitVec 32 := Scalar.remsi v522 c2_i32_349
  let c512_i32_385 : BitVec 32 := 512#32
  let v612 : BitVec 32 := Scalar.muli v558 c512_i32_385
  let v613 : BitVec 32 := Scalar.addi v608 v612
  let c2_i32_350 : BitVec 32 := 2#32
  let v559 : BitVec 32 := Scalar.remsi v519 c2_i32_350
  let c256_i32_417 : BitVec 32 := 256#32
  let v650 : BitVec 32 := Scalar.muli v559 c256_i32_417
  let v651 : BitVec 32 := Scalar.addi v613 v650
  let c0_i32 : BitVec 32 := 0#32
  let v486 : BitVec 1 := Scalar.cmpi .sgt v484 c0_i32
  let v487 : BitVec 32 := Scalar.extui v486
  let c0_i32_315 : BitVec 32 := 0#32
  let v488 : BitVec 1 := Scalar.cmpi .slt v484 c0_i32_315
  let v489 : BitVec 32 := Scalar.extui v488
  let v490 : BitVec 32 := Scalar.subi v487 v489
  let c8_i32 : BitVec 32 := 8#32
  let c0_i32_316 : BitVec 32 := 0#32
  let v491 : BitVec 1 := Scalar.cmpi .sgt c8_i32 c0_i32_316
  let v492 : BitVec 32 := Scalar.extui v491
  let c0_i32_317 : BitVec 32 := 0#32
  let v493 : BitVec 1 := Scalar.cmpi .slt c8_i32 c0_i32_317
  let v494 : BitVec 32 := Scalar.extui v493
  let v495 : BitVec 32 := Scalar.subi v492 v494
  let v496 : BitVec 1 := Scalar.cmpi .ne v490 v495
  let v497 : BitVec 32 := Scalar.remsi v484 c8_i32
  let c0_i32_318 : BitVec 32 := 0#32
  let v498 : BitVec 1 := Scalar.cmpi .ne v497 c0_i32_318
  let v499 : BitVec 1 := Scalar.andi v496 v498
  let v485 : BitVec 32 := Scalar.divsi v484 c8_i32
  let c1_i32_319 : BitVec 32 := 1#32
  let v500 : BitVec 32 := Scalar.subi v485 c1_i32_319
  let v501 : BitVec 32 := Scalar.select v499 v500 v485
  let c2_i32_351 : BitVec 32 := 2#32
  let v560 : BitVec 32 := Scalar.remsi v501 c2_i32_351
  let c128_i32_450 : BitVec 32 := 128#32
  let v688 : BitVec 32 := Scalar.muli v560 c128_i32_450
  let v689 : BitVec 32 := Scalar.addi v651 v688
  let c0_i32_353 : BitVec 32 := 0#32
  let v562 : BitVec 1 := Scalar.cmpi .sgt v519 c0_i32_353
  let v563 : BitVec 32 := Scalar.extui v562
  let c0_i32_354 : BitVec 32 := 0#32
  let v564 : BitVec 1 := Scalar.cmpi .slt v519 c0_i32_354
  let v565 : BitVec 32 := Scalar.extui v564
  let v566 : BitVec 32 := Scalar.subi v563 v565
  let c2_i32_352 : BitVec 32 := 2#32
  let c0_i32_355 : BitVec 32 := 0#32
  let v567 : BitVec 1 := Scalar.cmpi .sgt c2_i32_352 c0_i32_355
  let v568 : BitVec 32 := Scalar.extui v567
  let c0_i32_356 : BitVec 32 := 0#32
  let v569 : BitVec 1 := Scalar.cmpi .slt c2_i32_352 c0_i32_356
  let v570 : BitVec 32 := Scalar.extui v569
  let v571 : BitVec 32 := Scalar.subi v568 v570
  let v572 : BitVec 1 := Scalar.cmpi .ne v566 v571
  let v573 : BitVec 32 := Scalar.remsi v519 c2_i32_352
  let c0_i32_357 : BitVec 32 := 0#32
  let v574 : BitVec 1 := Scalar.cmpi .ne v573 c0_i32_357
  let v575 : BitVec 1 := Scalar.andi v572 v574
  let v561 : BitVec 32 := Scalar.divsi v519 c2_i32_352
  let c1_i32_358 : BitVec 32 := 1#32
  let v576 : BitVec 32 := Scalar.subi v561 c1_i32_358
  let v577 : BitVec 32 := Scalar.select v575 v576 v561
  let c2_i32_359 : BitVec 32 := 2#32
  let v578 : BitVec 32 := Scalar.remsi v577 c2_i32_359
  let c64_i32_480 : BitVec 32 := 64#32
  let v726 : BitVec 32 := Scalar.muli v578 c64_i32_480
  let v727 : BitVec 32 := Scalar.addi v689 v726
  let c0_i32_361 : BitVec 32 := 0#32
  let v580 : BitVec 1 := Scalar.cmpi .sgt v501 c0_i32_361
  let v581 : BitVec 32 := Scalar.extui v580
  let c0_i32_362 : BitVec 32 := 0#32
  let v582 : BitVec 1 := Scalar.cmpi .slt v501 c0_i32_362
  let v583 : BitVec 32 := Scalar.extui v582
  let v584 : BitVec 32 := Scalar.subi v581 v583
  let c2_i32_360 : BitVec 32 := 2#32
  let c0_i32_363 : BitVec 32 := 0#32
  let v585 : BitVec 1 := Scalar.cmpi .sgt c2_i32_360 c0_i32_363
  let v586 : BitVec 32 := Scalar.extui v585
  let c0_i32_364 : BitVec 32 := 0#32
  let v587 : BitVec 1 := Scalar.cmpi .slt c2_i32_360 c0_i32_364
  let v588 : BitVec 32 := Scalar.extui v587
  let v589 : BitVec 32 := Scalar.subi v586 v588
  let v590 : BitVec 1 := Scalar.cmpi .ne v584 v589
  let v591 : BitVec 32 := Scalar.remsi v501 c2_i32_360
  let c0_i32_365 : BitVec 32 := 0#32
  let v592 : BitVec 1 := Scalar.cmpi .ne v591 c0_i32_365
  let v593 : BitVec 1 := Scalar.andi v590 v592
  let v579 : BitVec 32 := Scalar.divsi v501 c2_i32_360
  let c1_i32_366 : BitVec 32 := 1#32
  let v594 : BitVec 32 := Scalar.subi v579 c1_i32_366
  let v595 : BitVec 32 := Scalar.select v593 v594 v579
  let c2_i32_367 : BitVec 32 := 2#32
  let v596 : BitVec 32 := Scalar.remsi v595 c2_i32_367
  let c32_i32_510 : BitVec 32 := 32#32
  let v764 : BitVec 32 := Scalar.muli v596 c32_i32_510
  let v765 : BitVec 32 := Scalar.addi v727 v764
  let c0_i32_544 : BitVec 32 := 0#32
  ![v765.toNat, 0]
def k0_dev11 (d482 : Dev nD) : Nat :=
  let c0_i32_543 : BitVec 32 := 0#32
  let c8_i32_348 : BitVec 32 := 8#32
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32 : BitVec 32 := 0#32
  let v486 : BitVec 1 := Scalar.cmpi .sgt v484 c0_i32
  let v487 : BitVec 32 := Scalar.extui v486
  let c0_i32_315 : BitVec 32 := 0#32
  let v488 : BitVec 1 := Scalar.cmpi .slt v484 c0_i32_315
  let v489 : BitVec 32 := Scalar.extui v488
  let v490 : BitVec 32 := Scalar.subi v487 v489
  let c8_i32 : BitVec 32 := 8#32
  let c0_i32_316 : BitVec 32 := 0#32
  let v491 : BitVec 1 := Scalar.cmpi .sgt c8_i32 c0_i32_316
  let v492 : BitVec 32 := Scalar.extui v491
  let c0_i32_317 : BitVec 32 := 0#32
  let v493 : BitVec 1 := Scalar.cmpi .slt c8_i32 c0_i32_317
  let v494 : BitVec 32 := Scalar.extui v493
  let v495 : BitVec 32 := Scalar.subi v492 v494
  let v496 : BitVec 1 := Scalar.cmpi .ne v490 v495
  let v497 : BitVec 32 := Scalar.remsi v484 c8_i32
  let c0_i32_318 : BitVec 32 := 0#32
  let v498 : BitVec 1 := Scalar.cmpi .ne v497 c0_i32_318
  let v499 : BitVec 1 := Scalar.andi v496 v498
  let v485 : BitVec 32 := Scalar.divsi v484 c8_i32
  let c1_i32_319 : BitVec 32 := 1#32
  let v500 : BitVec 32 := Scalar.subi v485 c1_i32_319
  let v501 : BitVec 32 := Scalar.select v499 v500 v485
  let c2_i32_345 : BitVec 32 := 2#32
  let v551 : BitVec 32 := Scalar.xori v501 c2_i32_345
  let v556 : BitVec 32 := Scalar.muli c8_i32_348 v551
  let c2_i32_346 : BitVec 32 := 2#32
  let c8_i32_320 : BitVec 32 := 8#32
  let v502 : BitVec 32 := Scalar.remsi v484 c8_i32_320
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let v552 : BitVec 32 := Scalar.muli c2_i32_346 v519
  let c2_i32_327 : BitVec 32 := 2#32
  let v520 : BitVec 32 := Scalar.remsi v502 c2_i32_327
  let c2_i32_328 : BitVec 32 := 2#32
  let v521 : BitVec 32 := Scalar.remsi v519 c2_i32_328
  let v522 : BitVec 32 := Scalar.xori v520 v521
  let c2_i32_347 : BitVec 32 := 2#32
  let v553 : BitVec 32 := Scalar.remsi v519 c2_i32_347
  let v554 : BitVec 32 := Scalar.xori v522 v553
  let v555 : BitVec 32 := Scalar.addi v552 v554
  let v557 : BitVec 32 := Scalar.addi v556 v555
  let c1_i32_542 : BitVec 32 := 1#32
  let v806 : BitVec 32 := Scalar.muli v557 c1_i32_542
  let v807 : BitVec 32 := Scalar.addi c0_i32_543 v806
  v807.toNat
def k0_off12 (d482 : Dev nD) : Fin 2 → Nat :=
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32_383 : BitVec 32 := 0#32
  let v608 : BitVec 32 := Scalar.muli v484 c0_i32_383
  let c8_i32_320 : BitVec 32 := 8#32
  let v502 : BitVec 32 := Scalar.remsi v484 c8_i32_320
  let c2_i32_327 : BitVec 32 := 2#32
  let v520 : BitVec 32 := Scalar.remsi v502 c2_i32_327
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let c2_i32_328 : BitVec 32 := 2#32
  let v521 : BitVec 32 := Scalar.remsi v519 c2_i32_328
  let v522 : BitVec 32 := Scalar.xori v520 v521
  let c2_i32_349 : BitVec 32 := 2#32
  let v558 : BitVec 32 := Scalar.remsi v522 c2_i32_349
  let c512_i32_385 : BitVec 32 := 512#32
  let v612 : BitVec 32 := Scalar.muli v558 c512_i32_385
  let v613 : BitVec 32 := Scalar.addi v608 v612
  let c2_i32_350 : BitVec 32 := 2#32
  let v559 : BitVec 32 := Scalar.remsi v519 c2_i32_350
  let c256_i32_417 : BitVec 32 := 256#32
  let v650 : BitVec 32 := Scalar.muli v559 c256_i32_417
  let v651 : BitVec 32 := Scalar.addi v613 v650
  let c0_i32 : BitVec 32 := 0#32
  let v486 : BitVec 1 := Scalar.cmpi .sgt v484 c0_i32
  let v487 : BitVec 32 := Scalar.extui v486
  let c0_i32_315 : BitVec 32 := 0#32
  let v488 : BitVec 1 := Scalar.cmpi .slt v484 c0_i32_315
  let v489 : BitVec 32 := Scalar.extui v488
  let v490 : BitVec 32 := Scalar.subi v487 v489
  let c8_i32 : BitVec 32 := 8#32
  let c0_i32_316 : BitVec 32 := 0#32
  let v491 : BitVec 1 := Scalar.cmpi .sgt c8_i32 c0_i32_316
  let v492 : BitVec 32 := Scalar.extui v491
  let c0_i32_317 : BitVec 32 := 0#32
  let v493 : BitVec 1 := Scalar.cmpi .slt c8_i32 c0_i32_317
  let v494 : BitVec 32 := Scalar.extui v493
  let v495 : BitVec 32 := Scalar.subi v492 v494
  let v496 : BitVec 1 := Scalar.cmpi .ne v490 v495
  let v497 : BitVec 32 := Scalar.remsi v484 c8_i32
  let c0_i32_318 : BitVec 32 := 0#32
  let v498 : BitVec 1 := Scalar.cmpi .ne v497 c0_i32_318
  let v499 : BitVec 1 := Scalar.andi v496 v498
  let v485 : BitVec 32 := Scalar.divsi v484 c8_i32
  let c1_i32_319 : BitVec 32 := 1#32
  let v500 : BitVec 32 := Scalar.subi v485 c1_i32_319
  let v501 : BitVec 32 := Scalar.select v499 v500 v485
  let c2_i32_351 : BitVec 32 := 2#32
  let v560 : BitVec 32 := Scalar.remsi v501 c2_i32_351
  let c128_i32_450 : BitVec 32 := 128#32
  let v688 : BitVec 32 := Scalar.muli v560 c128_i32_450
  let v689 : BitVec 32 := Scalar.addi v651 v688
  let c0_i32_353 : BitVec 32 := 0#32
  let v562 : BitVec 1 := Scalar.cmpi .sgt v519 c0_i32_353
  let v563 : BitVec 32 := Scalar.extui v562
  let c0_i32_354 : BitVec 32 := 0#32
  let v564 : BitVec 1 := Scalar.cmpi .slt v519 c0_i32_354
  let v565 : BitVec 32 := Scalar.extui v564
  let v566 : BitVec 32 := Scalar.subi v563 v565
  let c2_i32_352 : BitVec 32 := 2#32
  let c0_i32_355 : BitVec 32 := 0#32
  let v567 : BitVec 1 := Scalar.cmpi .sgt c2_i32_352 c0_i32_355
  let v568 : BitVec 32 := Scalar.extui v567
  let c0_i32_356 : BitVec 32 := 0#32
  let v569 : BitVec 1 := Scalar.cmpi .slt c2_i32_352 c0_i32_356
  let v570 : BitVec 32 := Scalar.extui v569
  let v571 : BitVec 32 := Scalar.subi v568 v570
  let v572 : BitVec 1 := Scalar.cmpi .ne v566 v571
  let v573 : BitVec 32 := Scalar.remsi v519 c2_i32_352
  let c0_i32_357 : BitVec 32 := 0#32
  let v574 : BitVec 1 := Scalar.cmpi .ne v573 c0_i32_357
  let v575 : BitVec 1 := Scalar.andi v572 v574
  let v561 : BitVec 32 := Scalar.divsi v519 c2_i32_352
  let c1_i32_358 : BitVec 32 := 1#32
  let v576 : BitVec 32 := Scalar.subi v561 c1_i32_358
  let v577 : BitVec 32 := Scalar.select v575 v576 v561
  let c2_i32_359 : BitVec 32 := 2#32
  let v578 : BitVec 32 := Scalar.remsi v577 c2_i32_359
  let c64_i32_480 : BitVec 32 := 64#32
  let v726 : BitVec 32 := Scalar.muli v578 c64_i32_480
  let v727 : BitVec 32 := Scalar.addi v689 v726
  let c0_i32_361 : BitVec 32 := 0#32
  let v580 : BitVec 1 := Scalar.cmpi .sgt v501 c0_i32_361
  let v581 : BitVec 32 := Scalar.extui v580
  let c0_i32_362 : BitVec 32 := 0#32
  let v582 : BitVec 1 := Scalar.cmpi .slt v501 c0_i32_362
  let v583 : BitVec 32 := Scalar.extui v582
  let v584 : BitVec 32 := Scalar.subi v581 v583
  let c2_i32_360 : BitVec 32 := 2#32
  let c0_i32_363 : BitVec 32 := 0#32
  let v585 : BitVec 1 := Scalar.cmpi .sgt c2_i32_360 c0_i32_363
  let v586 : BitVec 32 := Scalar.extui v585
  let c0_i32_364 : BitVec 32 := 0#32
  let v587 : BitVec 1 := Scalar.cmpi .slt c2_i32_360 c0_i32_364
  let v588 : BitVec 32 := Scalar.extui v587
  let v589 : BitVec 32 := Scalar.subi v586 v588
  let v590 : BitVec 1 := Scalar.cmpi .ne v584 v589
  let v591 : BitVec 32 := Scalar.remsi v501 c2_i32_360
  let c0_i32_365 : BitVec 32 := 0#32
  let v592 : BitVec 1 := Scalar.cmpi .ne v591 c0_i32_365
  let v593 : BitVec 1 := Scalar.andi v590 v592
  let v579 : BitVec 32 := Scalar.divsi v501 c2_i32_360
  let c1_i32_366 : BitVec 32 := 1#32
  let v594 : BitVec 32 := Scalar.subi v579 c1_i32_366
  let v595 : BitVec 32 := Scalar.select v593 v594 v579
  let c2_i32_367 : BitVec 32 := 2#32
  let v596 : BitVec 32 := Scalar.remsi v595 c2_i32_367
  let c32_i32_510 : BitVec 32 := 32#32
  let v764 : BitVec 32 := Scalar.muli v596 c32_i32_510
  let v765 : BitVec 32 := Scalar.addi v727 v764
  let c32_i32_557 : BitVec 32 := 32#32
  let v824 : BitVec 32 := Scalar.muli v596 c32_i32_557
  let v825 : BitVec 32 := Scalar.subi v765 v824
  let c0_i32_561 : BitVec 32 := 0#32
  ![v825.toNat, 0]
def k0_dev12 (d482 : Dev nD) : Nat :=
  let c0_i32_560 : BitVec 32 := 0#32
  let c8_i32_344 : BitVec 32 := 8#32
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32 : BitVec 32 := 0#32
  let v486 : BitVec 1 := Scalar.cmpi .sgt v484 c0_i32
  let v487 : BitVec 32 := Scalar.extui v486
  let c0_i32_315 : BitVec 32 := 0#32
  let v488 : BitVec 1 := Scalar.cmpi .slt v484 c0_i32_315
  let v489 : BitVec 32 := Scalar.extui v488
  let v490 : BitVec 32 := Scalar.subi v487 v489
  let c8_i32 : BitVec 32 := 8#32
  let c0_i32_316 : BitVec 32 := 0#32
  let v491 : BitVec 1 := Scalar.cmpi .sgt c8_i32 c0_i32_316
  let v492 : BitVec 32 := Scalar.extui v491
  let c0_i32_317 : BitVec 32 := 0#32
  let v493 : BitVec 1 := Scalar.cmpi .slt c8_i32 c0_i32_317
  let v494 : BitVec 32 := Scalar.extui v493
  let v495 : BitVec 32 := Scalar.subi v492 v494
  let v496 : BitVec 1 := Scalar.cmpi .ne v490 v495
  let v497 : BitVec 32 := Scalar.remsi v484 c8_i32
  let c0_i32_318 : BitVec 32 := 0#32
  let v498 : BitVec 1 := Scalar.cmpi .ne v497 c0_i32_318
  let v499 : BitVec 1 := Scalar.andi v496 v498
  let v485 : BitVec 32 := Scalar.divsi v484 c8_i32
  let c1_i32_319 : BitVec 32 := 1#32
  let v500 : BitVec 32 := Scalar.subi v485 c1_i32_319
  let v501 : BitVec 32 := Scalar.select v499 v500 v485
  let v549 : BitVec 32 := Scalar.muli c8_i32_344 v501
  let c2_i32_342 : BitVec 32 := 2#32
  let c8_i32_320 : BitVec 32 := 8#32
  let v502 : BitVec 32 := Scalar.remsi v484 c8_i32_320
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let c2_i32_341 : BitVec 32 := 2#32
  let v544 : BitVec 32 := Scalar.xori v519 c2_i32_341
  let v545 : BitVec 32 := Scalar.muli c2_i32_342 v544
  let c2_i32_327 : BitVec 32 := 2#32
  let v520 : BitVec 32 := Scalar.remsi v502 c2_i32_327
  let c2_i32_328 : BitVec 32 := 2#32
  let v521 : BitVec 32 := Scalar.remsi v519 c2_i32_328
  let v522 : BitVec 32 := Scalar.xori v520 v521
  let c2_i32_343 : BitVec 32 := 2#32
  let v546 : BitVec 32 := Scalar.remsi v544 c2_i32_343
  let v547 : BitVec 32 := Scalar.xori v522 v546
  let v548 : BitVec 32 := Scalar.addi v545 v547
  let v550 : BitVec 32 := Scalar.addi v549 v548
  let c1_i32_559 : BitVec 32 := 1#32
  let v826 : BitVec 32 := Scalar.muli v550 c1_i32_559
  let v827 : BitVec 32 := Scalar.addi c0_i32_560 v826
  v827.toNat
def k0_off13 (d482 : Dev nD) : Fin 2 → Nat :=
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32_383 : BitVec 32 := 0#32
  let v608 : BitVec 32 := Scalar.muli v484 c0_i32_383
  let c8_i32_320 : BitVec 32 := 8#32
  let v502 : BitVec 32 := Scalar.remsi v484 c8_i32_320
  let c2_i32_327 : BitVec 32 := 2#32
  let v520 : BitVec 32 := Scalar.remsi v502 c2_i32_327
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let c2_i32_328 : BitVec 32 := 2#32
  let v521 : BitVec 32 := Scalar.remsi v519 c2_i32_328
  let v522 : BitVec 32 := Scalar.xori v520 v521
  let c2_i32_349 : BitVec 32 := 2#32
  let v558 : BitVec 32 := Scalar.remsi v522 c2_i32_349
  let c512_i32_385 : BitVec 32 := 512#32
  let v612 : BitVec 32 := Scalar.muli v558 c512_i32_385
  let v613 : BitVec 32 := Scalar.addi v608 v612
  let c2_i32_350 : BitVec 32 := 2#32
  let v559 : BitVec 32 := Scalar.remsi v519 c2_i32_350
  let c256_i32_417 : BitVec 32 := 256#32
  let v650 : BitVec 32 := Scalar.muli v559 c256_i32_417
  let v651 : BitVec 32 := Scalar.addi v613 v650
  let c0_i32 : BitVec 32 := 0#32
  let v486 : BitVec 1 := Scalar.cmpi .sgt v484 c0_i32
  let v487 : BitVec 32 := Scalar.extui v486
  let c0_i32_315 : BitVec 32 := 0#32
  let v488 : BitVec 1 := Scalar.cmpi .slt v484 c0_i32_315
  let v489 : BitVec 32 := Scalar.extui v488
  let v490 : BitVec 32 := Scalar.subi v487 v489
  let c8_i32 : BitVec 32 := 8#32
  let c0_i32_316 : BitVec 32 := 0#32
  let v491 : BitVec 1 := Scalar.cmpi .sgt c8_i32 c0_i32_316
  let v492 : BitVec 32 := Scalar.extui v491
  let c0_i32_317 : BitVec 32 := 0#32
  let v493 : BitVec 1 := Scalar.cmpi .slt c8_i32 c0_i32_317
  let v494 : BitVec 32 := Scalar.extui v493
  let v495 : BitVec 32 := Scalar.subi v492 v494
  let v496 : BitVec 1 := Scalar.cmpi .ne v490 v495
  let v497 : BitVec 32 := Scalar.remsi v484 c8_i32
  let c0_i32_318 : BitVec 32 := 0#32
  let v498 : BitVec 1 := Scalar.cmpi .ne v497 c0_i32_318
  let v499 : BitVec 1 := Scalar.andi v496 v498
  let v485 : BitVec 32 := Scalar.divsi v484 c8_i32
  let c1_i32_319 : BitVec 32 := 1#32
  let v500 : BitVec 32 := Scalar.subi v485 c1_i32_319
  let v501 : BitVec 32 := Scalar.select v499 v500 v485
  let c2_i32_351 : BitVec 32 := 2#32
  let v560 : BitVec 32 := Scalar.remsi v501 c2_i32_351
  let c128_i32_450 : BitVec 32 := 128#32
  let v688 : BitVec 32 := Scalar.muli v560 c128_i32_450
  let v689 : BitVec 32 := Scalar.addi v651 v688
  let c0_i32_353 : BitVec 32 := 0#32
  let v562 : BitVec 1 := Scalar.cmpi .sgt v519 c0_i32_353
  let v563 : BitVec 32 := Scalar.extui v562
  let c0_i32_354 : BitVec 32 := 0#32
  let v564 : BitVec 1 := Scalar.cmpi .slt v519 c0_i32_354
  let v565 : BitVec 32 := Scalar.extui v564
  let v566 : BitVec 32 := Scalar.subi v563 v565
  let c2_i32_352 : BitVec 32 := 2#32
  let c0_i32_355 : BitVec 32 := 0#32
  let v567 : BitVec 1 := Scalar.cmpi .sgt c2_i32_352 c0_i32_355
  let v568 : BitVec 32 := Scalar.extui v567
  let c0_i32_356 : BitVec 32 := 0#32
  let v569 : BitVec 1 := Scalar.cmpi .slt c2_i32_352 c0_i32_356
  let v570 : BitVec 32 := Scalar.extui v569
  let v571 : BitVec 32 := Scalar.subi v568 v570
  let v572 : BitVec 1 := Scalar.cmpi .ne v566 v571
  let v573 : BitVec 32 := Scalar.remsi v519 c2_i32_352
  let c0_i32_357 : BitVec 32 := 0#32
  let v574 : BitVec 1 := Scalar.cmpi .ne v573 c0_i32_357
  let v575 : BitVec 1 := Scalar.andi v572 v574
  let v561 : BitVec 32 := Scalar.divsi v519 c2_i32_352
  let c1_i32_358 : BitVec 32 := 1#32
  let v576 : BitVec 32 := Scalar.subi v561 c1_i32_358
  let v577 : BitVec 32 := Scalar.select v575 v576 v561
  let c2_i32_359 : BitVec 32 := 2#32
  let v578 : BitVec 32 := Scalar.remsi v577 c2_i32_359
  let c64_i32_480 : BitVec 32 := 64#32
  let v726 : BitVec 32 := Scalar.muli v578 c64_i32_480
  let v727 : BitVec 32 := Scalar.addi v689 v726
  let c0_i32_361 : BitVec 32 := 0#32
  let v580 : BitVec 1 := Scalar.cmpi .sgt v501 c0_i32_361
  let v581 : BitVec 32 := Scalar.extui v580
  let c0_i32_362 : BitVec 32 := 0#32
  let v582 : BitVec 1 := Scalar.cmpi .slt v501 c0_i32_362
  let v583 : BitVec 32 := Scalar.extui v582
  let v584 : BitVec 32 := Scalar.subi v581 v583
  let c2_i32_360 : BitVec 32 := 2#32
  let c0_i32_363 : BitVec 32 := 0#32
  let v585 : BitVec 1 := Scalar.cmpi .sgt c2_i32_360 c0_i32_363
  let v586 : BitVec 32 := Scalar.extui v585
  let c0_i32_364 : BitVec 32 := 0#32
  let v587 : BitVec 1 := Scalar.cmpi .slt c2_i32_360 c0_i32_364
  let v588 : BitVec 32 := Scalar.extui v587
  let v589 : BitVec 32 := Scalar.subi v586 v588
  let v590 : BitVec 1 := Scalar.cmpi .ne v584 v589
  let v591 : BitVec 32 := Scalar.remsi v501 c2_i32_360
  let c0_i32_365 : BitVec 32 := 0#32
  let v592 : BitVec 1 := Scalar.cmpi .ne v591 c0_i32_365
  let v593 : BitVec 1 := Scalar.andi v590 v592
  let v579 : BitVec 32 := Scalar.divsi v501 c2_i32_360
  let c1_i32_366 : BitVec 32 := 1#32
  let v594 : BitVec 32 := Scalar.subi v579 c1_i32_366
  let v595 : BitVec 32 := Scalar.select v593 v594 v579
  let c2_i32_367 : BitVec 32 := 2#32
  let v596 : BitVec 32 := Scalar.remsi v595 c2_i32_367
  let c32_i32_510 : BitVec 32 := 32#32
  let v764 : BitVec 32 := Scalar.muli v596 c32_i32_510
  let v765 : BitVec 32 := Scalar.addi v727 v764
  let c32_i32_557 : BitVec 32 := 32#32
  let v824 : BitVec 32 := Scalar.muli v596 c32_i32_557
  let v825 : BitVec 32 := Scalar.subi v765 v824
  let c64_i32_574 : BitVec 32 := 64#32
  let v844 : BitVec 32 := Scalar.muli v578 c64_i32_574
  let v845 : BitVec 32 := Scalar.subi v825 v844
  let c0_i32_578 : BitVec 32 := 0#32
  ![v845.toNat, 0]
def k0_dev13 (d482 : Dev nD) : Nat :=
  let c0_i32_577 : BitVec 32 := 0#32
  let c8_i32_340 : BitVec 32 := 8#32
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32 : BitVec 32 := 0#32
  let v486 : BitVec 1 := Scalar.cmpi .sgt v484 c0_i32
  let v487 : BitVec 32 := Scalar.extui v486
  let c0_i32_315 : BitVec 32 := 0#32
  let v488 : BitVec 1 := Scalar.cmpi .slt v484 c0_i32_315
  let v489 : BitVec 32 := Scalar.extui v488
  let v490 : BitVec 32 := Scalar.subi v487 v489
  let c8_i32 : BitVec 32 := 8#32
  let c0_i32_316 : BitVec 32 := 0#32
  let v491 : BitVec 1 := Scalar.cmpi .sgt c8_i32 c0_i32_316
  let v492 : BitVec 32 := Scalar.extui v491
  let c0_i32_317 : BitVec 32 := 0#32
  let v493 : BitVec 1 := Scalar.cmpi .slt c8_i32 c0_i32_317
  let v494 : BitVec 32 := Scalar.extui v493
  let v495 : BitVec 32 := Scalar.subi v492 v494
  let v496 : BitVec 1 := Scalar.cmpi .ne v490 v495
  let v497 : BitVec 32 := Scalar.remsi v484 c8_i32
  let c0_i32_318 : BitVec 32 := 0#32
  let v498 : BitVec 1 := Scalar.cmpi .ne v497 c0_i32_318
  let v499 : BitVec 1 := Scalar.andi v496 v498
  let v485 : BitVec 32 := Scalar.divsi v484 c8_i32
  let c1_i32_319 : BitVec 32 := 1#32
  let v500 : BitVec 32 := Scalar.subi v485 c1_i32_319
  let v501 : BitVec 32 := Scalar.select v499 v500 v485
  let c1_i32_337 : BitVec 32 := 1#32
  let v537 : BitVec 32 := Scalar.xori v501 c1_i32_337
  let v542 : BitVec 32 := Scalar.muli c8_i32_340 v537
  let c2_i32_338 : BitVec 32 := 2#32
  let c8_i32_320 : BitVec 32 := 8#32
  let v502 : BitVec 32 := Scalar.remsi v484 c8_i32_320
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let v538 : BitVec 32 := Scalar.muli c2_i32_338 v519
  let c2_i32_327 : BitVec 32 := 2#32
  let v520 : BitVec 32 := Scalar.remsi v502 c2_i32_327
  let c2_i32_328 : BitVec 32 := 2#32
  let v521 : BitVec 32 := Scalar.remsi v519 c2_i32_328
  let v522 : BitVec 32 := Scalar.xori v520 v521
  let c2_i32_339 : BitVec 32 := 2#32
  let v539 : BitVec 32 := Scalar.remsi v519 c2_i32_339
  let v540 : BitVec 32 := Scalar.xori v522 v539
  let v541 : BitVec 32 := Scalar.addi v538 v540
  let v543 : BitVec 32 := Scalar.addi v542 v541
  let c1_i32_576 : BitVec 32 := 1#32
  let v846 : BitVec 32 := Scalar.muli v543 c1_i32_576
  let v847 : BitVec 32 := Scalar.addi c0_i32_577 v846
  v847.toNat
def k0_off14 (d482 : Dev nD) : Fin 2 → Nat :=
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32_383 : BitVec 32 := 0#32
  let v608 : BitVec 32 := Scalar.muli v484 c0_i32_383
  let c8_i32_320 : BitVec 32 := 8#32
  let v502 : BitVec 32 := Scalar.remsi v484 c8_i32_320
  let c2_i32_327 : BitVec 32 := 2#32
  let v520 : BitVec 32 := Scalar.remsi v502 c2_i32_327
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let c2_i32_328 : BitVec 32 := 2#32
  let v521 : BitVec 32 := Scalar.remsi v519 c2_i32_328
  let v522 : BitVec 32 := Scalar.xori v520 v521
  let c2_i32_349 : BitVec 32 := 2#32
  let v558 : BitVec 32 := Scalar.remsi v522 c2_i32_349
  let c512_i32_385 : BitVec 32 := 512#32
  let v612 : BitVec 32 := Scalar.muli v558 c512_i32_385
  let v613 : BitVec 32 := Scalar.addi v608 v612
  let c2_i32_350 : BitVec 32 := 2#32
  let v559 : BitVec 32 := Scalar.remsi v519 c2_i32_350
  let c256_i32_417 : BitVec 32 := 256#32
  let v650 : BitVec 32 := Scalar.muli v559 c256_i32_417
  let v651 : BitVec 32 := Scalar.addi v613 v650
  let c0_i32 : BitVec 32 := 0#32
  let v486 : BitVec 1 := Scalar.cmpi .sgt v484 c0_i32
  let v487 : BitVec 32 := Scalar.extui v486
  let c0_i32_315 : BitVec 32 := 0#32
  let v488 : BitVec 1 := Scalar.cmpi .slt v484 c0_i32_315
  let v489 : BitVec 32 := Scalar.extui v488
  let v490 : BitVec 32 := Scalar.subi v487 v489
  let c8_i32 : BitVec 32 := 8#32
  let c0_i32_316 : BitVec 32 := 0#32
  let v491 : BitVec 1 := Scalar.cmpi .sgt c8_i32 c0_i32_316
  let v492 : BitVec 32 := Scalar.extui v491
  let c0_i32_317 : BitVec 32 := 0#32
  let v493 : BitVec 1 := Scalar.cmpi .slt c8_i32 c0_i32_317
  let v494 : BitVec 32 := Scalar.extui v493
  let v495 : BitVec 32 := Scalar.subi v492 v494
  let v496 : BitVec 1 := Scalar.cmpi .ne v490 v495
  let v497 : BitVec 32 := Scalar.remsi v484 c8_i32
  let c0_i32_318 : BitVec 32 := 0#32
  let v498 : BitVec 1 := Scalar.cmpi .ne v497 c0_i32_318
  let v499 : BitVec 1 := Scalar.andi v496 v498
  let v485 : BitVec 32 := Scalar.divsi v484 c8_i32
  let c1_i32_319 : BitVec 32 := 1#32
  let v500 : BitVec 32 := Scalar.subi v485 c1_i32_319
  let v501 : BitVec 32 := Scalar.select v499 v500 v485
  let c2_i32_351 : BitVec 32 := 2#32
  let v560 : BitVec 32 := Scalar.remsi v501 c2_i32_351
  let c128_i32_450 : BitVec 32 := 128#32
  let v688 : BitVec 32 := Scalar.muli v560 c128_i32_450
  let v689 : BitVec 32 := Scalar.addi v651 v688
  let c0_i32_353 : BitVec 32 := 0#32
  let v562 : BitVec 1 := Scalar.cmpi .sgt v519 c0_i32_353
  let v563 : BitVec 32 := Scalar.extui v562
  let c0_i32_354 : BitVec 32 := 0#32
  let v564 : BitVec 1 := Scalar.cmpi .slt v519 c0_i32_354
  let v565 : BitVec 32 := Scalar.extui v564
  let v566 : BitVec 32 := Scalar.subi v563 v565
  let c2_i32_352 : BitVec 32 := 2#32
  let c0_i32_355 : BitVec 32 := 0#32
  let v567 : BitVec 1 := Scalar.cmpi .sgt c2_i32_352 c0_i32_355
  let v568 : BitVec 32 := Scalar.extui v567
  let c0_i32_356 : BitVec 32 := 0#32
  let v569 : BitVec 1 := Scalar.cmpi .slt c2_i32_352 c0_i32_356
  let v570 : BitVec 32 := Scalar.extui v569
  let v571 : BitVec 32 := Scalar.subi v568 v570
  let v572 : BitVec 1 := Scalar.cmpi .ne v566 v571
  let v573 : BitVec 32 := Scalar.remsi v519 c2_i32_352
  let c0_i32_357 : BitVec 32 := 0#32
  let v574 : BitVec 1 := Scalar.cmpi .ne v573 c0_i32_357
  let v575 : BitVec 1 := Scalar.andi v572 v574
  let v561 : BitVec 32 := Scalar.divsi v519 c2_i32_352
  let c1_i32_358 : BitVec 32 := 1#32
  let v576 : BitVec 32 := Scalar.subi v561 c1_i32_358
  let v577 : BitVec 32 := Scalar.select v575 v576 v561
  let c2_i32_359 : BitVec 32 := 2#32
  let v578 : BitVec 32 := Scalar.remsi v577 c2_i32_359
  let c64_i32_480 : BitVec 32 := 64#32
  let v726 : BitVec 32 := Scalar.muli v578 c64_i32_480
  let v727 : BitVec 32 := Scalar.addi v689 v726
  let c0_i32_361 : BitVec 32 := 0#32
  let v580 : BitVec 1 := Scalar.cmpi .sgt v501 c0_i32_361
  let v581 : BitVec 32 := Scalar.extui v580
  let c0_i32_362 : BitVec 32 := 0#32
  let v582 : BitVec 1 := Scalar.cmpi .slt v501 c0_i32_362
  let v583 : BitVec 32 := Scalar.extui v582
  let v584 : BitVec 32 := Scalar.subi v581 v583
  let c2_i32_360 : BitVec 32 := 2#32
  let c0_i32_363 : BitVec 32 := 0#32
  let v585 : BitVec 1 := Scalar.cmpi .sgt c2_i32_360 c0_i32_363
  let v586 : BitVec 32 := Scalar.extui v585
  let c0_i32_364 : BitVec 32 := 0#32
  let v587 : BitVec 1 := Scalar.cmpi .slt c2_i32_360 c0_i32_364
  let v588 : BitVec 32 := Scalar.extui v587
  let v589 : BitVec 32 := Scalar.subi v586 v588
  let v590 : BitVec 1 := Scalar.cmpi .ne v584 v589
  let v591 : BitVec 32 := Scalar.remsi v501 c2_i32_360
  let c0_i32_365 : BitVec 32 := 0#32
  let v592 : BitVec 1 := Scalar.cmpi .ne v591 c0_i32_365
  let v593 : BitVec 1 := Scalar.andi v590 v592
  let v579 : BitVec 32 := Scalar.divsi v501 c2_i32_360
  let c1_i32_366 : BitVec 32 := 1#32
  let v594 : BitVec 32 := Scalar.subi v579 c1_i32_366
  let v595 : BitVec 32 := Scalar.select v593 v594 v579
  let c2_i32_367 : BitVec 32 := 2#32
  let v596 : BitVec 32 := Scalar.remsi v595 c2_i32_367
  let c32_i32_510 : BitVec 32 := 32#32
  let v764 : BitVec 32 := Scalar.muli v596 c32_i32_510
  let v765 : BitVec 32 := Scalar.addi v727 v764
  let c32_i32_557 : BitVec 32 := 32#32
  let v824 : BitVec 32 := Scalar.muli v596 c32_i32_557
  let v825 : BitVec 32 := Scalar.subi v765 v824
  let c64_i32_574 : BitVec 32 := 64#32
  let v844 : BitVec 32 := Scalar.muli v578 c64_i32_574
  let v845 : BitVec 32 := Scalar.subi v825 v844
  let c128_i32_591 : BitVec 32 := 128#32
  let v864 : BitVec 32 := Scalar.muli v560 c128_i32_591
  let v865 : BitVec 32 := Scalar.subi v845 v864
  let c0_i32_596 : BitVec 32 := 0#32
  ![v865.toNat, 0]
def k0_dev14 (d482 : Dev nD) : Nat :=
  let c0_i32_595 : BitVec 32 := 0#32
  let c8_i32_336 : BitVec 32 := 8#32
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32 : BitVec 32 := 0#32
  let v486 : BitVec 1 := Scalar.cmpi .sgt v484 c0_i32
  let v487 : BitVec 32 := Scalar.extui v486
  let c0_i32_315 : BitVec 32 := 0#32
  let v488 : BitVec 1 := Scalar.cmpi .slt v484 c0_i32_315
  let v489 : BitVec 32 := Scalar.extui v488
  let v490 : BitVec 32 := Scalar.subi v487 v489
  let c8_i32 : BitVec 32 := 8#32
  let c0_i32_316 : BitVec 32 := 0#32
  let v491 : BitVec 1 := Scalar.cmpi .sgt c8_i32 c0_i32_316
  let v492 : BitVec 32 := Scalar.extui v491
  let c0_i32_317 : BitVec 32 := 0#32
  let v493 : BitVec 1 := Scalar.cmpi .slt c8_i32 c0_i32_317
  let v494 : BitVec 32 := Scalar.extui v493
  let v495 : BitVec 32 := Scalar.subi v492 v494
  let v496 : BitVec 1 := Scalar.cmpi .ne v490 v495
  let v497 : BitVec 32 := Scalar.remsi v484 c8_i32
  let c0_i32_318 : BitVec 32 := 0#32
  let v498 : BitVec 1 := Scalar.cmpi .ne v497 c0_i32_318
  let v499 : BitVec 1 := Scalar.andi v496 v498
  let v485 : BitVec 32 := Scalar.divsi v484 c8_i32
  let c1_i32_319 : BitVec 32 := 1#32
  let v500 : BitVec 32 := Scalar.subi v485 c1_i32_319
  let v501 : BitVec 32 := Scalar.select v499 v500 v485
  let v535 : BitVec 32 := Scalar.muli c8_i32_336 v501
  let c2_i32_334 : BitVec 32 := 2#32
  let c8_i32_320 : BitVec 32 := 8#32
  let v502 : BitVec 32 := Scalar.remsi v484 c8_i32_320
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let c1_i32_333 : BitVec 32 := 1#32
  let v530 : BitVec 32 := Scalar.xori v519 c1_i32_333
  let v531 : BitVec 32 := Scalar.muli c2_i32_334 v530
  let c2_i32_327 : BitVec 32 := 2#32
  let v520 : BitVec 32 := Scalar.remsi v502 c2_i32_327
  let c2_i32_328 : BitVec 32 := 2#32
  let v521 : BitVec 32 := Scalar.remsi v519 c2_i32_328
  let v522 : BitVec 32 := Scalar.xori v520 v521
  let c2_i32_335 : BitVec 32 := 2#32
  let v532 : BitVec 32 := Scalar.remsi v530 c2_i32_335
  let v533 : BitVec 32 := Scalar.xori v522 v532
  let v534 : BitVec 32 := Scalar.addi v531 v533
  let v536 : BitVec 32 := Scalar.addi v535 v534
  let c1_i32_594 : BitVec 32 := 1#32
  let v866 : BitVec 32 := Scalar.muli v536 c1_i32_594
  let v867 : BitVec 32 := Scalar.addi c0_i32_595 v866
  v867.toNat
def k0_off15 (d482 : Dev nD) : Fin 2 → Nat :=
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32_383 : BitVec 32 := 0#32
  let v608 : BitVec 32 := Scalar.muli v484 c0_i32_383
  let c8_i32_320 : BitVec 32 := 8#32
  let v502 : BitVec 32 := Scalar.remsi v484 c8_i32_320
  let c2_i32_327 : BitVec 32 := 2#32
  let v520 : BitVec 32 := Scalar.remsi v502 c2_i32_327
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let c2_i32_328 : BitVec 32 := 2#32
  let v521 : BitVec 32 := Scalar.remsi v519 c2_i32_328
  let v522 : BitVec 32 := Scalar.xori v520 v521
  let c2_i32_349 : BitVec 32 := 2#32
  let v558 : BitVec 32 := Scalar.remsi v522 c2_i32_349
  let c512_i32_385 : BitVec 32 := 512#32
  let v612 : BitVec 32 := Scalar.muli v558 c512_i32_385
  let v613 : BitVec 32 := Scalar.addi v608 v612
  let c2_i32_350 : BitVec 32 := 2#32
  let v559 : BitVec 32 := Scalar.remsi v519 c2_i32_350
  let c256_i32_417 : BitVec 32 := 256#32
  let v650 : BitVec 32 := Scalar.muli v559 c256_i32_417
  let v651 : BitVec 32 := Scalar.addi v613 v650
  let c0_i32 : BitVec 32 := 0#32
  let v486 : BitVec 1 := Scalar.cmpi .sgt v484 c0_i32
  let v487 : BitVec 32 := Scalar.extui v486
  let c0_i32_315 : BitVec 32 := 0#32
  let v488 : BitVec 1 := Scalar.cmpi .slt v484 c0_i32_315
  let v489 : BitVec 32 := Scalar.extui v488
  let v490 : BitVec 32 := Scalar.subi v487 v489
  let c8_i32 : BitVec 32 := 8#32
  let c0_i32_316 : BitVec 32 := 0#32
  let v491 : BitVec 1 := Scalar.cmpi .sgt c8_i32 c0_i32_316
  let v492 : BitVec 32 := Scalar.extui v491
  let c0_i32_317 : BitVec 32 := 0#32
  let v493 : BitVec 1 := Scalar.cmpi .slt c8_i32 c0_i32_317
  let v494 : BitVec 32 := Scalar.extui v493
  let v495 : BitVec 32 := Scalar.subi v492 v494
  let v496 : BitVec 1 := Scalar.cmpi .ne v490 v495
  let v497 : BitVec 32 := Scalar.remsi v484 c8_i32
  let c0_i32_318 : BitVec 32 := 0#32
  let v498 : BitVec 1 := Scalar.cmpi .ne v497 c0_i32_318
  let v499 : BitVec 1 := Scalar.andi v496 v498
  let v485 : BitVec 32 := Scalar.divsi v484 c8_i32
  let c1_i32_319 : BitVec 32 := 1#32
  let v500 : BitVec 32 := Scalar.subi v485 c1_i32_319
  let v501 : BitVec 32 := Scalar.select v499 v500 v485
  let c2_i32_351 : BitVec 32 := 2#32
  let v560 : BitVec 32 := Scalar.remsi v501 c2_i32_351
  let c128_i32_450 : BitVec 32 := 128#32
  let v688 : BitVec 32 := Scalar.muli v560 c128_i32_450
  let v689 : BitVec 32 := Scalar.addi v651 v688
  let c0_i32_353 : BitVec 32 := 0#32
  let v562 : BitVec 1 := Scalar.cmpi .sgt v519 c0_i32_353
  let v563 : BitVec 32 := Scalar.extui v562
  let c0_i32_354 : BitVec 32 := 0#32
  let v564 : BitVec 1 := Scalar.cmpi .slt v519 c0_i32_354
  let v565 : BitVec 32 := Scalar.extui v564
  let v566 : BitVec 32 := Scalar.subi v563 v565
  let c2_i32_352 : BitVec 32 := 2#32
  let c0_i32_355 : BitVec 32 := 0#32
  let v567 : BitVec 1 := Scalar.cmpi .sgt c2_i32_352 c0_i32_355
  let v568 : BitVec 32 := Scalar.extui v567
  let c0_i32_356 : BitVec 32 := 0#32
  let v569 : BitVec 1 := Scalar.cmpi .slt c2_i32_352 c0_i32_356
  let v570 : BitVec 32 := Scalar.extui v569
  let v571 : BitVec 32 := Scalar.subi v568 v570
  let v572 : BitVec 1 := Scalar.cmpi .ne v566 v571
  let v573 : BitVec 32 := Scalar.remsi v519 c2_i32_352
  let c0_i32_357 : BitVec 32 := 0#32
  let v574 : BitVec 1 := Scalar.cmpi .ne v573 c0_i32_357
  let v575 : BitVec 1 := Scalar.andi v572 v574
  let v561 : BitVec 32 := Scalar.divsi v519 c2_i32_352
  let c1_i32_358 : BitVec 32 := 1#32
  let v576 : BitVec 32 := Scalar.subi v561 c1_i32_358
  let v577 : BitVec 32 := Scalar.select v575 v576 v561
  let c2_i32_359 : BitVec 32 := 2#32
  let v578 : BitVec 32 := Scalar.remsi v577 c2_i32_359
  let c64_i32_480 : BitVec 32 := 64#32
  let v726 : BitVec 32 := Scalar.muli v578 c64_i32_480
  let v727 : BitVec 32 := Scalar.addi v689 v726
  let c0_i32_361 : BitVec 32 := 0#32
  let v580 : BitVec 1 := Scalar.cmpi .sgt v501 c0_i32_361
  let v581 : BitVec 32 := Scalar.extui v580
  let c0_i32_362 : BitVec 32 := 0#32
  let v582 : BitVec 1 := Scalar.cmpi .slt v501 c0_i32_362
  let v583 : BitVec 32 := Scalar.extui v582
  let v584 : BitVec 32 := Scalar.subi v581 v583
  let c2_i32_360 : BitVec 32 := 2#32
  let c0_i32_363 : BitVec 32 := 0#32
  let v585 : BitVec 1 := Scalar.cmpi .sgt c2_i32_360 c0_i32_363
  let v586 : BitVec 32 := Scalar.extui v585
  let c0_i32_364 : BitVec 32 := 0#32
  let v587 : BitVec 1 := Scalar.cmpi .slt c2_i32_360 c0_i32_364
  let v588 : BitVec 32 := Scalar.extui v587
  let v589 : BitVec 32 := Scalar.subi v586 v588
  let v590 : BitVec 1 := Scalar.cmpi .ne v584 v589
  let v591 : BitVec 32 := Scalar.remsi v501 c2_i32_360
  let c0_i32_365 : BitVec 32 := 0#32
  let v592 : BitVec 1 := Scalar.cmpi .ne v591 c0_i32_365
  let v593 : BitVec 1 := Scalar.andi v590 v592
  let v579 : BitVec 32 := Scalar.divsi v501 c2_i32_360
  let c1_i32_366 : BitVec 32 := 1#32
  let v594 : BitVec 32 := Scalar.subi v579 c1_i32_366
  let v595 : BitVec 32 := Scalar.select v593 v594 v579
  let c2_i32_367 : BitVec 32 := 2#32
  let v596 : BitVec 32 := Scalar.remsi v595 c2_i32_367
  let c32_i32_510 : BitVec 32 := 32#32
  let v764 : BitVec 32 := Scalar.muli v596 c32_i32_510
  let v765 : BitVec 32 := Scalar.addi v727 v764
  let c32_i32_557 : BitVec 32 := 32#32
  let v824 : BitVec 32 := Scalar.muli v596 c32_i32_557
  let v825 : BitVec 32 := Scalar.subi v765 v824
  let c64_i32_574 : BitVec 32 := 64#32
  let v844 : BitVec 32 := Scalar.muli v578 c64_i32_574
  let v845 : BitVec 32 := Scalar.subi v825 v844
  let c128_i32_591 : BitVec 32 := 128#32
  let v864 : BitVec 32 := Scalar.muli v560 c128_i32_591
  let v865 : BitVec 32 := Scalar.subi v845 v864
  let c256_i32_609 : BitVec 32 := 256#32
  let v884 : BitVec 32 := Scalar.muli v559 c256_i32_609
  let v885 : BitVec 32 := Scalar.subi v865 v884
  let c0_i32_613 : BitVec 32 := 0#32
  ![v885.toNat, 0]
def k0_dev15 (d482 : Dev nD) : Nat :=
  let c0_i32_612 : BitVec 32 := 0#32
  let c8_i32_332 : BitVec 32 := 8#32
  let v482 : BitVec 32 := Dev.word d482
  let c1_i32 : BitVec 32 := 1#32
  let v483 : BitVec 32 := Scalar.divsi v482 c1_i32
  let c32_i32 : BitVec 32 := 32#32
  let v484 : BitVec 32 := Scalar.remsi v483 c32_i32
  let c0_i32 : BitVec 32 := 0#32
  let v486 : BitVec 1 := Scalar.cmpi .sgt v484 c0_i32
  let v487 : BitVec 32 := Scalar.extui v486
  let c0_i32_315 : BitVec 32 := 0#32
  let v488 : BitVec 1 := Scalar.cmpi .slt v484 c0_i32_315
  let v489 : BitVec 32 := Scalar.extui v488
  let v490 : BitVec 32 := Scalar.subi v487 v489
  let c8_i32 : BitVec 32 := 8#32
  let c0_i32_316 : BitVec 32 := 0#32
  let v491 : BitVec 1 := Scalar.cmpi .sgt c8_i32 c0_i32_316
  let v492 : BitVec 32 := Scalar.extui v491
  let c0_i32_317 : BitVec 32 := 0#32
  let v493 : BitVec 1 := Scalar.cmpi .slt c8_i32 c0_i32_317
  let v494 : BitVec 32 := Scalar.extui v493
  let v495 : BitVec 32 := Scalar.subi v492 v494
  let v496 : BitVec 1 := Scalar.cmpi .ne v490 v495
  let v497 : BitVec 32 := Scalar.remsi v484 c8_i32
  let c0_i32_318 : BitVec 32 := 0#32
  let v498 : BitVec 1 := Scalar.cmpi .ne v497 c0_i32_318
  let v499 : BitVec 1 := Scalar.andi v496 v498
  let v485 : BitVec 32 := Scalar.divsi v484 c8_i32
  let c1_i32_319 : BitVec 32 := 1#32
  let v500 : BitVec 32 := Scalar.subi v485 c1_i32_319
  let v501 : BitVec 32 := Scalar.select v499 v500 v485
  let v528 : BitVec 32 := Scalar.muli c8_i32_332 v501
  let c2_i32_330 : BitVec 32 := 2#32
  let c8_i32_320 : BitVec 32 := 8#32
  let v502 : BitVec 32 := Scalar.remsi v484 c8_i32_320
  let c0_i32_321 : BitVec 32 := 0#32
  let v504 : BitVec 1 := Scalar.cmpi .sgt v502 c0_i32_321
  let v505 : BitVec 32 := Scalar.extui v504
  let c0_i32_322 : BitVec 32 := 0#32
  let v506 : BitVec 1 := Scalar.cmpi .slt v502 c0_i32_322
  let v507 : BitVec 32 := Scalar.extui v506
  let v508 : BitVec 32 := Scalar.subi v505 v507
  let c2_i32 : BitVec 32 := 2#32
  let c0_i32_323 : BitVec 32 := 0#32
  let v509 : BitVec 1 := Scalar.cmpi .sgt c2_i32 c0_i32_323
  let v510 : BitVec 32 := Scalar.extui v509
  let c0_i32_324 : BitVec 32 := 0#32
  let v511 : BitVec 1 := Scalar.cmpi .slt c2_i32 c0_i32_324
  let v512 : BitVec 32 := Scalar.extui v511
  let v513 : BitVec 32 := Scalar.subi v510 v512
  let v514 : BitVec 1 := Scalar.cmpi .ne v508 v513
  let v515 : BitVec 32 := Scalar.remsi v502 c2_i32
  let c0_i32_325 : BitVec 32 := 0#32
  let v516 : BitVec 1 := Scalar.cmpi .ne v515 c0_i32_325
  let v517 : BitVec 1 := Scalar.andi v514 v516
  let v503 : BitVec 32 := Scalar.divsi v502 c2_i32
  let c1_i32_326 : BitVec 32 := 1#32
  let v518 : BitVec 32 := Scalar.subi v503 c1_i32_326
  let v519 : BitVec 32 := Scalar.select v517 v518 v503
  let v524 : BitVec 32 := Scalar.muli c2_i32_330 v519
  let c2_i32_327 : BitVec 32 := 2#32
  let v520 : BitVec 32 := Scalar.remsi v502 c2_i32_327
  let c2_i32_328 : BitVec 32 := 2#32
  let v521 : BitVec 32 := Scalar.remsi v519 c2_i32_328
  let v522 : BitVec 32 := Scalar.xori v520 v521
  let c1_i32_329 : BitVec 32 := 1#32
  let v523 : BitVec 32 := Scalar.xori v522 c1_i32_329
  let c2_i32_331 : BitVec 32 := 2#32
  let v525 : BitVec 32 := Scalar.remsi v519 c2_i32_331
  let v526 : BitVec 32 := Scalar.xori v523 v525
  let v527 : BitVec 32 := Scalar.addi v524 v526
  let v529 : BitVec 32 := Scalar.addi v528 v527
  let c1_i32_611 : BitVec 32 := 1#32
  let v886 : BitVec 32 := Scalar.muli v529 c1_i32_611
  let v887 : BitVec 32 := Scalar.addi c0_i32_612 v886
  v887.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x16384 : Shape := ⟨2, ![768, 16384]⟩
abbrev S2x512x256x64 : Shape := ⟨4, ![2, 512, 256, 64]⟩
abbrev S16384x768 : Shape := ⟨2, ![16384, 768]⟩
abbrev S2x512x16384 : Shape := ⟨3, ![2, 512, 16384]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S2x256x512x512 : Shape := ⟨4, ![2, 256, 512, 512]⟩
abbrev S1x1x512x512 : Shape := ⟨4, ![1, 1, 512, 512]⟩
abbrev S2x256x512 : Shape := ⟨3, ![2, 256, 512]⟩
abbrev S2x256x512x1 : Shape := ⟨4, ![2, 256, 512, 1]⟩
abbrev S1x1x512x1 : Shape := ⟨4, ![1, 1, 512, 1]⟩
abbrev S2x256x64x512 : Shape := ⟨4, ![2, 256, 64, 512]⟩

abbrev nBuf : Space → Nat
  | .hbm => 60
  | .vmem => 0
  | .smem => 0
  | _ => 0

abbrev bufTy : (tb : Table) → Fin (tcTables nBuf tb) → BufTy
  | .hbm, ⟨0, _⟩ => ⟨S2x512x768, .bf16⟩
  | .hbm, ⟨1, _⟩ => ⟨S768x16384, .bf16⟩
  | .hbm, ⟨2, _⟩ => ⟨S2x512x256x64, .bf16⟩
  | .hbm, ⟨3, _⟩ => ⟨S2x512x256x64, .bf16⟩
  | .hbm, ⟨4, _⟩ => ⟨S16384x768, .bf16⟩
  | .hbm, ⟨5, _⟩ => ⟨S2x512x16384, .f32⟩
  | .hbm, ⟨6, _⟩ => ⟨S2x512x16384, .bf16⟩
  | .hbm, ⟨7, _⟩ => ⟨S2x512x256x64, .bf16⟩
  | .hbm, ⟨8, _⟩ => ⟨S512, .i32⟩
  | .hbm, ⟨9, _⟩ => ⟨S512x1, .i32⟩
  | .hbm, ⟨10, _⟩ => ⟨S512, .i32⟩
  | .hbm, ⟨11, _⟩ => ⟨S1x512, .i32⟩
  | .hbm, ⟨12, _⟩ => ⟨S512x512, .i32⟩
  | .hbm, ⟨13, _⟩ => ⟨S512x512, .i32⟩
  | .hbm, ⟨14, _⟩ => ⟨S512x512, .i32⟩
  | .hbm, ⟨15, _⟩ => ⟨S512x512, .i32⟩
  | .hbm, ⟨16, _⟩ => ⟨S_, .i32⟩
  | .hbm, ⟨17, _⟩ => ⟨S512x512, .i32⟩
  | .hbm, ⟨18, _⟩ => ⟨S512x512, .i1⟩
  | .hbm, ⟨19, _⟩ => ⟨S2x256x512x512, .f32⟩
  | .hbm, ⟨20, _⟩ => ⟨S2x256x512x512, .bf16⟩
  | .hbm, ⟨21, _⟩ => ⟨S2x256x512x512, .f32⟩
  | .hbm, ⟨22, _⟩ => ⟨S_, .f32⟩
  | .hbm, ⟨23, _⟩ => ⟨S2x256x512x512, .f32⟩
  | .hbm, ⟨24, _⟩ => ⟨S2x256x512x512, .f32⟩
  | .hbm, ⟨25, _⟩ => ⟨S1x1x512x512, .i1⟩
  | .hbm, ⟨26, _⟩ => ⟨S_, .f32⟩
  | .hbm, ⟨27, _⟩ => ⟨S_, .f32⟩
  | .hbm, ⟨28, _⟩ => ⟨S2x256x512x512, .i1⟩
  | .hbm, ⟨29, _⟩ => ⟨S2x256x512x512, .f32⟩
  | .hbm, ⟨30, _⟩ => ⟨S2x256x512x512, .f32⟩
  | .hbm, ⟨31, _⟩ => ⟨S_, .f32⟩
  | .hbm, ⟨32, _⟩ => ⟨S2x256x512, .f32⟩
  | .hbm, ⟨33, _⟩ => ⟨S2x256x512x1, .f32⟩
  | .hbm, ⟨34, _⟩ => ⟨S2x256x512x512, .f32⟩
  | .hbm, ⟨35, _⟩ => ⟨S2x256x512x512, .f32⟩
  | .hbm, ⟨36, _⟩ => ⟨S2x256x512x512, .f32⟩
  | .hbm, ⟨37, _⟩ => ⟨S_, .i1⟩
  | .hbm, ⟨38, _⟩ => ⟨S512, .i1⟩
  | .hbm, ⟨39, _⟩ => ⟨S1x1x512x1, .i1⟩
  | .hbm, ⟨40, _⟩ => ⟨S_, .f32⟩
  | .hbm, ⟨41, _⟩ => ⟨S2x256x512, .f32⟩
  | .hbm, ⟨42, _⟩ => ⟨S2x256x512x1, .f32⟩
  | .hbm, ⟨43, _⟩ => ⟨S_, .f32⟩
  | .hbm, ⟨44, _⟩ => ⟨S_, .f32⟩
  | .hbm, ⟨45, _⟩ => ⟨S2x256x512x1, .i1⟩
  | .hbm, ⟨46, _⟩ => ⟨S2x256x512x1, .f32⟩
  | .hbm, ⟨47, _⟩ => ⟨S2x256x512x1, .f32⟩
  | .hbm, ⟨48, _⟩ => ⟨S2x256x512x512, .f32⟩
  | .hbm, ⟨49, _⟩ => ⟨S2x256x512x512, .f32⟩
  | .hbm, ⟨50, _⟩ => ⟨S1x1x512x1, .i1⟩
  | .hbm, ⟨51, _⟩ => ⟨S_, .f32⟩
  | .hbm, ⟨52, _⟩ => ⟨S_, .f32⟩
  | .hbm, ⟨53, _⟩ => ⟨S2x256x512x512, .i1⟩
  | .hbm, ⟨54, _⟩ => ⟨S2x256x512x512, .f32⟩
  | .hbm, ⟨55, _⟩ => ⟨S2x256x512x512, .f32⟩
  | .hbm, ⟨56, _⟩ => ⟨S2x256x64x512, .f32⟩
  | .hbm, ⟨57, _⟩ => ⟨S2x512x256x64, .f32⟩
  | .hbm, ⟨58, _⟩ => ⟨S2x512x16384, .f32⟩
  | .hbm, ⟨59, _⟩ => ⟨S2x512x768, .f32⟩
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩

abbrev nD : Nat := 1
abbrev τ : Topo := Topo.v7x

variable {F : FTy → Type} [FloatOps F]
-- ==== Proof.Geometry.lean ====
/-
The geometry of the all-reduce: which device talks to which at every step, and which rows of the 1024-row buffers each
step reads and writes.

The 32 devices reduce by recursive halving and gather by recursive doubling. At halving step `k` a device works on a
segment of `2 * half k` rows starting at row `seg k c`; it keeps one half of it, the one its `k`-th bit names, and sends
the other half to its `k`-th partner. After five steps it holds 32 rows, and the gather walks the same steps backwards.
-/
module

public import proofs.«01_k».proof.Proof.Gen.KernelIdeal.Skeleton
public import Idealize.ShloMosaic.Lib.Tactic

@[expose] public section

noncomputable section

namespace Cert.AllReduce

open Cert.KernelIdeal Cert.KernelIdeal.Gen Idealize.ShloMosaic

/-- The number whose binary digits the `k`-th partner differs in. -/
def mask : Fin 5 → ℕ := ![1, 3, 8, 4, 16]

set_option backward.proofsInPublic true in
/-- The `k`-th partner of a device. -/
def peer (k : Fin 5) (c : Dev nD) : Dev nD := ⟨(c.val ^^^ mask k) % 32, Nat.mod_lt _ (by decide)⟩

/-- Partnership is mutual. -/
theorem peer_peer (k : Fin 5) (c : Dev nD) : peer k (peer k c) = c := by revert k c; decide

/-- The partners of one device are different devices. -/
theorem peer_inj (c : Dev nD) (k k' : Fin 5) : peer k c = peer k' c → k = k' := by revert c k k'; decide

/-- Which half of its segment device `c` keeps at halving step `k`: `0` the lower, `1` the upper. -/
def bit (k : Fin 5) (c : Dev nD) : ℕ :=
  match k with
  | 0 => (c.val % 2 + c.val / 2) % 2
  | 1 => c.val / 2 % 2
  | 2 => c.val / 8 % 2
  | 3 => c.val / 4 % 2
  | 4 => c.val / 16 % 2

/-- The number of rows exchanged at step `k`. -/
def half (k : Fin 5) : ℕ := ![512, 256, 128, 64, 32] k

/-- The first row of the segment device `c` holds before halving step `k` (after all five steps at `k = 5`). -/
def seg (k : Fin 6) (c : Dev nD) : ℕ := ∑ i : Fin 5, if i.val < k.val then bit i c * half i else 0

/-- The first row device `c` sends away at step `k`. -/
def away (k : Fin 5) (c : Dev nD) : ℕ := seg k.castSucc c + (1 - bit k c) * half k

/-- Where in the receive buffer the rows of step `k` land. -/
def slot (k : Fin 5) : ℕ := ![0, 512, 768, 896, 960] k

theorem seg_zero (c : Dev nD) : seg 0 c = 0 := by revert c; decide
theorem seg_succ (k : Fin 5) (c : Dev nD) : seg k.succ c = seg k.castSucc c + bit k c * half k := by revert k c; decide
theorem bit_le (k : Fin 5) (c : Dev nD) : bit k c = 0 ∨ bit k c = 1 := by revert k c; decide
theorem bit_peer (k : Fin 5) (c : Dev nD) : bit k (peer k c) = 1 - bit k c := by revert k c; decide
/-- Partners at step `k` work on the same segment. -/
theorem seg_peer (k : Fin 5) (c : Dev nD) : seg k.castSucc (peer k c) = seg k.castSucc c := by revert k c; decide
/-- What a device keeps is what its partner sends. -/
theorem away_peer (k : Fin 5) (c : Dev nD) : away k (peer k c) = seg k.succ c := by revert k c; decide
theorem seg_succ_peer (k : Fin 5) (c : Dev nD) : seg k.succ (peer k c) = away k c := by revert k c; decide
theorem seg_add_le (k : Fin 5) (c : Dev nD) : seg k.castSucc c + 2 * half k ≤ 1024 := by revert k c; decide

/-- The device that holds row `r` after the five halving steps. -/
def owner (r : Fin 1024) : Dev nD :=
  ⟨8 * ((r.val / 128 % 2) + 2 * (r.val / 32 % 2)) + 2 * ((r.val / 256 % 2) + 2 * (r.val / 64 % 2))
    + (r.val / 512 % 2 + r.val / 256 % 2) % 2, by
      have : r.val / 128 % 2 < 2 := Nat.mod_lt _ (by decide)
      have : r.val / 32 % 2 < 2 := Nat.mod_lt _ (by decide)
      have : r.val / 256 % 2 < 2 := Nat.mod_lt _ (by decide)
      have : r.val / 64 % 2 < 2 := Nat.mod_lt _ (by decide)
      have : (r.val / 512 % 2 + r.val / 256 % 2) % 2 < 2 := Nat.mod_lt _ (by decide)
      show _ < 32
      omega⟩

/-- The owner of a row of device `c`'s final 32 rows is `c`. -/
theorem owner_seg (c : Dev nD) (r : Fin 32) (h : seg 5 c + r.val < 1024) : owner ⟨seg 5 c + r.val, h⟩ = c := by
  have key : ∀ (c : Dev nD) (r : Fin 32), ∀ h : seg 5 c + r.val < 1024, owner ⟨seg 5 c + r.val, h⟩ = c := by decide +kernel
  exact key c r h

/-! ## The printed device and offset chains are these -/

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 3 c := by revert c; decide +kernel
theorem dev5_eq (c : Dev nD) : (⟨k0_dev5 c, k0_dev5_lt c⟩ : Dev nD) = peer 4 c := by revert c; decide +kernel
theorem dev6_eq (c : Dev nD) : (⟨k0_dev6 c, k0_dev6_lt c⟩ : Dev nD) = peer 0 c := by revert c; decide +kernel
theorem dev7_eq (c : Dev nD) : (⟨k0_dev7 c, k0_dev7_lt c⟩ : Dev nD) = peer 1 c := by revert c; decide +kernel
theorem dev8_eq (c : Dev nD) : (⟨k0_dev8 c, k0_dev8_lt c⟩ : Dev nD) = peer 2 c := by revert c; decide +kernel
theorem dev9_eq (c : Dev nD) : (⟨k0_dev9 c, k0_dev9_lt c⟩ : Dev nD) = peer 3 c := by revert c; decide +kernel
theorem dev10_eq (c : Dev nD) : (⟨k0_dev10 c, k0_dev10_lt c⟩ : Dev nD) = peer 4 c := by revert c; decide +kernel
theorem dev11_eq (c : Dev nD) : (⟨k0_dev11 c, k0_dev11_lt c⟩ : Dev nD) = peer 4 c := by revert c; decide +kernel
theorem dev12_eq (c : Dev nD) : (⟨k0_dev12 c, k0_dev12_lt c⟩ : Dev nD) = peer 3 c := by revert c; decide +kernel
theorem dev13_eq (c : Dev nD) : (⟨k0_dev13 c, k0_dev13_lt c⟩ : Dev nD) = peer 2 c := by revert c; decide +kernel
theorem dev14_eq (c : Dev nD) : (⟨k0_dev14 c, k0_dev14_lt c⟩ : Dev nD) = peer 1 c := by revert c; decide +kernel
theorem dev15_eq (c : Dev nD) : (⟨k0_dev15 c, k0_dev15_lt c⟩ : Dev nD) = peer 0 c := by revert c; decide +kernel

theorem off1_eq (c : Dev nD) : k0_off1 c = ![away 0 c, 0] := by revert c; decide +kernel
theorem off2_eq (c : Dev nD) : k0_off2 c = ![seg 1 c, 0] := by revert c; decide +kernel
theorem off3_eq (c : Dev nD) : k0_off3 c = ![away 1 c, 0] := by revert c; decide +kernel
theorem off4_eq (c : Dev nD) : k0_off4 c = ![seg 2 c, 0] := by revert c; decide +kernel
theorem off5_eq (c : Dev nD) : k0_off5 c = ![away 2 c, 0] := by revert c; decide +kernel
theorem off6_eq (c : Dev nD) : k0_off6 c = ![seg 3 c, 0] := by revert c; decide +kernel
theorem off7_eq (c : Dev nD) : k0_off7 c = ![away 3 c, 0] := by revert c; decide +kernel
theorem off8_eq (c : Dev nD) : k0_off8 c = ![seg 4 c, 0] := by revert c; decide +kernel
theorem off9_eq (c : Dev nD) : k0_off9 c = ![away 4 c, 0] := by revert c; decide +kernel
theorem off10_eq (c : Dev nD) : k0_off10 c = ![seg 5 c, 0] := by revert c; decide +kernel
theorem off11_eq (c : Dev nD) : k0_off11 c = ![seg 5 c, 0] := by revert c; decide +kernel
theorem off12_eq (c : Dev nD) : k0_off12 c = ![seg 4 c, 0] := by revert c; decide +kernel
theorem off13_eq (c : Dev nD) : k0_off13 c = ![seg 3 c, 0] := by revert c; decide +kernel
theorem off14_eq (c : Dev nD) : k0_off14 c = ![seg 2 c, 0] := by revert c; decide +kernel
theorem off15_eq (c : Dev nD) : k0_off15 c = ![seg 1 c, 0] := by revert c; decide +kernel

end Cert.AllReduce

end
-- ==== Proof.Rows.lean ====
/-
Blocks of whole rows of a two-dimensional buffer with 768 columns: the sets of elements the kernel's row slices address,
and how they split and join.
-/
module

public import proofs.«01_k».proof.Proof.Geometry
public import Idealize.ShloMosaic.Lib.ValueIdxCore
public import Idealize.ShloMosaic.Lib.Pipeline.Kit
public import Idealize.ShloMosaic.Lib.ViewIndex

@[expose] public section

noncomputable section

namespace Cert.AllReduce

open Idealize.ShloMosaic Idealize.ShloMosaic.ValueIdx

/-- The shape of a buffer of `R` rows. -/
abbrev Sh (R : ℕ) : Shape := ⟨2, ![R, 768]⟩

/-- The elements of rows `o` up to `o + n`. -/
def rows (R o n : ℕ) : Finset (Sh R).Idx := Finset.univ.filter fun i => o ≤ (i 0).val ∧ (i 0).val < o + n

theorem mem_rows {R o n : ℕ} {i : (Sh R).Idx} : i ∈ rows R o n ↔ o ≤ (i 0).val ∧ (i 0).val < o + n := by
  unfold rows; rw [Finset.mem_filter]; exact ⟨fun h => h.2, fun h => ⟨Finset.mem_univ _, h⟩⟩

/-- The elements a slice of whole rows addresses. -/
theorem unit_set_rows {R n o : ℕ} {off : Fin 2 → ℕ} (h : off = ![o, 0])
    (inb : ∀ a, off a + (![n, 768] : Fin 2 → ℕ) a ≤ (Sh R).size a) :
    (Rect.unit (s := Sh R) off ![n, 768] inb).set = rows R o n := by
  subst h
  ext i
  rw [Rect.mem_set_unit, mem_rows]
  constructor
  · intro H; exact H 0
  · intro H a
    match a with
    | 0 => exact H
    | 1 => exact ⟨Nat.zero_le _, by show (i 1).val < 0 + 768; have : (i 1).val < 768 := (i 1).isLt; omega⟩

/-- All rows is everything. -/
theorem rows_all (R : ℕ) : rows R 0 R = Finset.univ := by
  ext i; rw [mem_rows]
  exact ⟨fun _ => Finset.mem_univ _, fun _ => ⟨Nat.zero_le _, by rw [Nat.zero_add]; exact (i 0).isLt⟩⟩

/-- Where element `x` of a slice of whole rows lies. -/
theorem unit_emb_rows {R n o : ℕ} {off : Fin 2 → ℕ} (h : off = ![o, 0])
    (inb : ∀ a, off a + (![n, 768] : Fin 2 → ℕ) a ≤ (Sh R).size a) (x : (Rect.unit (s := Sh R) off ![n, 768] inb).shape.Idx) :
    ((Rect.unit (s := Sh R) off ![n, 768] inb).emb x 0).val = o + (x 0).val
      ∧ ((Rect.unit (s := Sh R) off ![n, 768] inb).emb x 1).val = (x 1).val := by
  subst h
  constructor
  · show o + 1 * (x 0).val = _; omega
  · show 0 + 1 * (x 1).val = _; omega

/-- Every element of those rows is an element of the slice. -/
theorem unit_exists {R n o : ℕ} {off : Fin 2 → ℕ} (h : off = ![o, 0])
    (inb : ∀ a, off a + (![n, 768] : Fin 2 → ℕ) a ≤ (Sh R).size a) {i : (Sh R).Idx} (hi : i ∈ rows R o n) :
    ∃ x : (Rect.unit (s := Sh R) off ![n, 768] inb).shape.Idx, (Rect.unit (s := Sh R) off ![n, 768] inb).emb x = i := by
  rw [mem_rows] at hi
  have h1 : (i 1).val < 768 := (i 1).isLt
  subst h
  refine ⟨fun a => match a with
    | 0 => ⟨(i 0).val - o, show (i 0).val - o < n by omega⟩
    | 1 => ⟨(i 1).val, show (i 1).val < 768 from h1⟩, ?_⟩
  funext a
  match a with
  | 0 => exact Fin.ext (by show o + 1 * ((i 0).val - o) = (i 0).val; omega)
  | 1 => exact Fin.ext (by show 0 + 1 * (i 1).val = (i 1).val; omega)

theorem rows_disjoint {R o n o' n' : ℕ} (h : o + n ≤ o' ∨ o' + n' ≤ o) : Disjoint (rows R o n) (rows R o' n') := by
  rw [Finset.disjoint_left]
  intro i h1 h2
  rw [mem_rows] at h1 h2
  omega

theorem rows_union {R o n n' : ℕ} : rows R o n ∪ rows R (o + n) n' = rows R o (n + n') := by
  ext i; rw [Finset.mem_union, mem_rows, mem_rows, mem_rows]; omega

/-- The rows a device kept so far before step `k` (at `k = 5`: after all steps). -/
def span (k : Fin 6) : ℕ := ![1024, 512, 256, 128, 64, 32] k

theorem span_castSucc (k : Fin 5) : span k.castSucc = half k + half k := by revert k; decide
theorem span_succ (k : Fin 5) : span k.succ = half k := by revert k; decide

/-- A device's segment is the half it keeps and the half it sends. -/
theorem seg_split (k : Fin 5) (c : Dev Cert.KernelIdeal.nD) :
    rows 1024 (seg k.castSucc c) (span k.castSucc) = rows 1024 (seg k.succ c) (span k.succ) ∪ rows 1024 (away k c) (half k) := by
  have h1 := seg_succ k c
  have h2 := bit_le k c
  have h3 := span_castSucc k
  have h4 := span_succ k
  ext i
  rw [Finset.mem_union, mem_rows, mem_rows, mem_rows, h3, h4, h1]
  unfold away
  rcases h2 with h | h <;> rw [h] <;> omega

theorem seg_disjoint (k : Fin 5) (c : Dev Cert.KernelIdeal.nD) :
    Disjoint (rows 1024 (seg k.succ c) (span k.succ)) (rows 1024 (away k c) (half k)) := by
  have h1 := seg_succ k c
  have h2 := bit_le k c
  have h4 := span_succ k
  apply rows_disjoint
  rw [h4, h1]; unfold away
  rcases h2 with h | h <;> rw [h] <;> omega

/-- Element `(r, q)` of a 1024-row buffer, the row taken modulo 1024. -/
def at2 (r : ℕ) (q : Fin 768) : (Sh 1024).Idx := ix2 ⟨r % 1024, Nat.mod_lt _ (by decide)⟩ q

theorem at2_eq {i : (Sh 1024).Idx} {r : ℕ} {q : Fin 768} (h0 : (i 0).val = r) (h1 : (i 1).val = q.val) : at2 r q = i := by
  unfold at2
  refine (funext fun a => ?_)
  match a with
  | 0 => exact Fin.ext (by show r % 1024 = (i 0).val; rw [h0]; exact Nat.mod_eq_of_lt (h0 ▸ (i 0).isLt))
  | 1 => exact Fin.ext h1.symm

end Cert.AllReduce

end
-- ==== Proof.Protocol.lean ====
/-
The protocol of the all-reduce: what every semaphore of every device stands for, what each signal and each remote copy
hands over, what a device owes, and the order in which waits are allowed.

Each device has one barrier cell, paid once by each of its five partners, and twenty cells of its own DMA semaphores: a
send and a receive cell for each of the five halving steps (`sendR`, `recvR`) and for each of the five doubling steps
(`sendA`, `recvA`, named by the partner of the step). Every cell is used once.
-/
module

public import proofs.«01_k».proof.Proof.Rows
public import proofs.«01_k».proof.Proof.Gen.KernelIdeal.Launch
public import Idealize.ShloMosaic.Lib.Rounds
public import Idealize.ShloMosaic.Lib.Pipeline.RegionTalk
public import Idealize.ShloMosaic.Lib.Tactic

@[expose] public section

noncomputable section

namespace Cert.AllReduce

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the protocol's, whose duties are named by the step -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## What the buffers hold -/

/-- Every device's partial product, the contents of its accumulator when the all-reduce begins. -/
abbrev Parts (F : FTy → Type) : Type := Dev nD → FVec F (Sh 1024) .f32

/-- Rounded to bf16, as everything that travels is. -/
def rnd (x : F .f32) : F .bf16 := FloatOps.truncf .bf16 bitsLt_bf16_f32 x
/-- Widened back. -/
def wid (x : F .bf16) : F .f32 := FloatOps.extf .f32 bitsLt_bf16_f32 x

/-- One halving step, on all rows: what a device had, plus what its partner had, rounded. -/
def fold (k : Fin 5) (B : Parts F) : Parts F := fun c i => FloatOps.addf (B c i) (wid (rnd (B (peer k c) i)))

/-- The accumulators before halving step `k`. A device's own is right on the rows of its segment. -/
def acc (P : Parts F) (k : Fin 6) : Parts F :=
  ![P, fold 0 P, fold 1 (fold 0 P), fold 2 (fold 1 (fold 0 P)), fold 3 (fold 2 (fold 1 (fold 0 P))),
    fold 4 (fold 3 (fold 2 (fold 1 (fold 0 P))))] k

theorem acc_zero (P : Parts F) : acc P 0 = P := rfl
theorem acc_succ (P : Parts F) (k : Fin 5) : acc P k.succ = fold k (acc P k.castSucc) := by fin_cases k <;> rfl

/-- The rounded total, which every device ends up holding: each row as its owner reduced it. -/
def total (P : Parts F) : FVec F (Sh 1024) .bf16 := fun i => rnd (acc P 5 (owner (i 0)) i)

/-- What lands in device `c`'s receive buffer at halving step `k`: its partner's rows, rounded. -/
def landed (P : Parts F) (k : Fin 5) (c : Dev nD) : FVec F (Sh 992) .bf16 :=
  fun i => rnd (acc P k.castSucc (peer k c) (at2 (seg k.succ c + ((i 0).val - slot k)) (i 1)))

/-! ## Buffers, cells -/

abbrev accM : Memref sig .tc .vmem (Sh 1024) .f32 := Memref.whole cc0_scratch0
abbrev stM : Memref sig .tc .vmem (Sh 512) .bf16 := Memref.whole cc0_scratch1
abbrev rvM : Memref sig .tc .vmem (Sh 992) .bf16 := Memref.whole cc0_scratch2
abbrev agM : Memref sig .tc .vmem (Sh 1024) .bf16 := Memref.whole cc0_scratch3

/-- Device `c`'s accumulator; some elements of its staging, receive and gather buffers. -/
def accPts (c : Dev nD) (f : FVec F (Sh 1024) .f32) : sProp 𝕄 := accM.view.loc (c : Thread nD τ) ↦{fullShare} f
def stPts (c : Dev nD) (S : Finset (Sh 512).Idx) (f : FVec F (Sh 512) .bf16) : sProp 𝕄 := stM.view.loc (c : Thread nD τ) ↦[S]{fullShare} f
def rvPts (c : Dev nD) (S : Finset (Sh 992).Idx) (f : FVec F (Sh 992) .bf16) : sProp 𝕄 := rvM.view.loc (c : Thread nD τ) ↦[S]{fullShare} f
def agPts (c : Dev nD) (S : Finset (Sh 1024).Idx) (f : FVec F (Sh 1024) .bf16) : sProp 𝕄 := agM.view.loc (c : Thread nD τ) ↦[S]{fullShare} f

instance stPts_storable (c : Dev nD) (S) (f : FVec F (Sh 512) .bf16) : BI.Storable (upEmb : UEmb _ 𝕄) (stPts c S f) := by unfold stPts; infer_instance
instance rvPts_storable (c : Dev nD) (S) (f : FVec F (Sh 992) .bf16) : BI.Storable (upEmb : UEmb _ 𝕄) (rvPts c S f) := by unfold rvPts; infer_instance
instance agPts_storable (c : Dev nD) (S) (f : FVec F (Sh 1024) .bf16) : BI.Storable (upEmb : UEmb _ 𝕄) (agPts c S f) := by unfold agPts; infer_instance

/-- The barrier semaphore, and the DMA semaphores of the steps. -/
abbrev barS : Sem sig := (SemArray.scalar (sig.barrier 0 rfl) : Sems sig S_).sem
abbrev sendR (k : Fin 5) : DmaSem sig := (⟨6 + k.val, by have := k.isLt; omega⟩ : Fin 26)
abbrev sendA (k : Fin 5) : DmaSem sig := (⟨15 - k.val, by have := k.isLt; omega⟩ : Fin 26)
abbrev recvR (k : Fin 5) : DmaSem sig := (⟨16 + k.val, by have := k.isLt; omega⟩ : Fin 26)
abbrev recvA (k : Fin 5) : DmaSem sig := (⟨25 - k.val, by have := k.isLt; omega⟩ : Fin 26)

abbrev barCell (c : Dev nD) : GSem nD τ sig := ((c : Thread nD τ), .reg barS)
abbrev dmaCell (s : DmaSem sig) (c : Dev nD) : GSem nD τ sig := ((c : Thread nD τ), .dma s)

/-- The kernel's own semaphores, four for each partner. -/
abbrev osem : Fin 5 × Fin 4 → SemLoc sig := fun p => .dma ((![sendR p.1, recvR p.1, sendA p.1, recvA p.1] : Fin 4 → DmaSem sig) p.2)

/-- What a copy of step `k` credits. -/
def N (k : Fin 5) : ℕ := RefSig.tileCredit (Sh (half k)) .bf16
theorem N_pos (k : Fin 5) : 0 < N k := RefSig.tileCredit_pos _ _ (by revert k; decide)

/-! ## The schedule -/

variable (P : Parts F)

/-- Paid to the barrier cell of `c` by its `k`-th partner: the places in the partner's buffers that `c` will write at steps
    `k`, and that the partner's receive cells of those steps are open. -/
def barPay (c : Dev nD) (k : Fin 5) : sProp 𝕄 :=
  iprop((∃ f, rvPts (peer k c) (rows 992 (slot k) (half k)) f) ∗ (∃ f, agPts (peer k c) (rows 1024 (seg k.succ c) (half k)) f)
    ∗ reached ER (dmaCell (recvR k) (peer k c)) 0 ∗ reached ER (dmaCell (recvA k) (peer k c)) 0)
/-- The source comes back; the partner's rows arrive. -/
def sendRPay (c : Dev nD) (k : Fin 5) : sProp 𝕄 := iprop(∃ f, stPts c (rows 512 0 (half k)) f)
def sendAPay (c : Dev nD) (k : Fin 5) : sProp 𝕄 := agPts c (rows 1024 (seg k.succ c) (half k)) (total P)
def recvRPay (c : Dev nD) (k : Fin 5) : sProp 𝕄 := rvPts c (rows 992 (slot k) (half k)) (landed P k c)
def recvAPay (c : Dev nD) (k : Fin 5) : sProp 𝕄 := agPts c (rows 1024 (away k c) (half k)) (total P)

/-- The step a DMA semaphore of the kernel belongs to. -/
def stepOf (s : ℕ) : Fin 5 := Fin.ofNat 5 (if s < 11 then s - 6 else if s < 16 then 15 - s else if s < 21 then s - 16 else 25 - s)

/-- What the one payment of a DMA cell hands over. -/
def dmaPay (c : Dev nD) (s : ℕ) : sProp 𝕄 :=
  if s < 11 then sendRPay c (stepOf s) else if s < 16 then sendAPay P c (stepOf s)
    else if s < 21 then recvRPay P c (stepOf s) else recvAPay P c (stepOf s)

/-- The schedule: one round; a barrier cell's five duties pay one unit each, a DMA cell's single duty the copy's credit. -/
def Rd : Rounds.Schedule (GSem nD τ sig) (Fin 5) 𝕄 where
  duties g r := if r = 0 ∧ g.1.2 = .tc then (match g.2 with | .reg _ => Finset.univ | .dma s => if 6 ≤ s.val then {0} else ∅) else ∅
  unitless _ := False
  amount g _ _ := match g.2 with | .reg _ => 1 | .dma s => N (stepOf s.val)
  payload g _ d := match g.2 with | .reg _ => barPay g.1.1 d | .dma s => dmaPay P g.1.1 s.val
  amount_pos g _ _ _ := by
    rcases g with ⟨t, s | s⟩
    · exact Nat.one_pos
    · exact N_pos _

instance Rd_payload_storable (g : GSem nD τ sig) (r : ℕ) (d : Fin 5) : BI.Storable (upEmb : UEmb _ 𝕄) ((Rd P).payload g r d) := by
  rcases g with ⟨t, s | s⟩
  · show BI.Storable upEmb (barPay t.1 d)
    unfold barPay; infer_instance
  · show BI.Storable upEmb (dmaPay P t.1 s.val)
    unfold dmaPay sendRPay sendAPay recvRPay recvAPay
    (repeat' split) <;> infer_instance

theorem duties_bar (c : Dev nD) : (Rd P).duties (barCell c) 0 = Finset.univ := by dsimp only [Rd]; exact if_pos ⟨rfl, rfl⟩
theorem duties_dma (c : Dev nD) (s : DmaSem sig) (hs : 6 ≤ s.val) : (Rd P).duties (dmaCell s c) 0 = {0} := by
  dsimp only [Rd]; rw [if_pos ⟨rfl, rfl⟩]; exact if_pos hs
theorem duties_later (g : GSem nD τ sig) : ∀ r, 1 ≤ r → (Rd P).duties g r = ∅ := fun r hr => by
  dsimp only [Rd]; exact if_neg fun h => by omega

theorem amount_bar (c : Dev nD) (k : Fin 5) : (Rd P).amount (barCell c) 0 k = 1 := rfl
theorem expect_bar (c : Dev nD) : (Rd P).expect (barCell c) 0 = 5 := by
  unfold Schedule.expect Schedule.amountOf; rw [duties_bar, Finset.sum_congr rfl fun k _ => amount_bar P c k]; rfl
theorem expect_dma (c : Dev nD) (s : DmaSem sig) (hs : 6 ≤ s.val) : (Rd P).expect (dmaCell s c) 0 = N (stepOf s.val) := by
  unfold Schedule.expect Schedule.amountOf; rw [duties_dma P c s hs, Finset.sum_singleton]; rfl

theorem step_sendR (k : Fin 5) : stepOf (sendR k).val = k := by revert k; decide
theorem step_sendA (k : Fin 5) : stepOf (sendA k).val = k := by revert k; decide
theorem step_recvR (k : Fin 5) : stepOf (recvR k).val = k := by revert k; decide
theorem step_recvA (k : Fin 5) : stepOf (recvA k).val = k := by revert k; decide
theorem sendR_le (k : Fin 5) : 6 ≤ (sendR k).val := by revert k; decide
theorem sendA_le (k : Fin 5) : 6 ≤ (sendA k).val := by revert k; decide
theorem recvR_le (k : Fin 5) : 6 ≤ (recvR k).val := by revert k; decide
theorem recvA_le (k : Fin 5) : 6 ≤ (recvA k).val := by revert k; decide

theorem pay_sendR (c : Dev nD) (k : Fin 5) : dmaPay P c (sendR k).val = sendRPay c k := by
  unfold dmaPay; rw [step_sendR, if_pos (by revert k; decide)]
theorem pay_sendA (c : Dev nD) (k : Fin 5) : dmaPay P c (sendA k).val = sendAPay P c k := by
  unfold dmaPay; rw [step_sendA, if_neg (by revert k; decide), if_pos (by revert k; decide)]
theorem pay_recvR (c : Dev nD) (k : Fin 5) : dmaPay P c (recvR k).val = recvRPay P c k := by
  unfold dmaPay; rw [step_recvR, if_neg (by revert k; decide), if_neg (by revert k; decide), if_pos (by revert k; decide)]
theorem pay_recvA (c : Dev nD) (k : Fin 5) : dmaPay P c (recvA k).val = recvAPay P c k := by
  unfold dmaPay; rw [step_recvA, if_neg (by revert k; decide), if_neg (by revert k; decide), if_neg (by revert k; decide)]

/-- What is left to collect from a DMA cell nothing was collected from. -/
theorem rest_dma (c : Dev nD) (s : DmaSem sig) (hs : 6 ≤ s.val) :
    bigSep ((Rd P).duties (dmaCell s c) 0 \ ∅) (fun d => (Rd P).payload (dmaCell s c) 0 d) = dmaPay P c s.val := by
  rw [Finset.sdiff_empty, duties_dma P c s hs, bigSep_singleton]; rfl
theorem rest_bar (c : Dev nD) :
    bigSep ((Rd P).duties (barCell c) 0 \ ∅) (fun d => (Rd P).payload (barCell c) 0 d) = bigSep Finset.univ (fun k => (barPay c k : sProp 𝕄)) := by
  rw [Finset.sdiff_empty, duties_bar]; rfl

/-! ## What each device owes, and the levels that order the waits -/

/-- Owed to the receive cells of the partners, and to their barrier cells. -/
def dueOfA (c : Dev nD) (k : Fin 5) : CellTallies nD τ sig Unit := tallyAt (dmaCell (recvA k) (peer k c)) () (N k)
def dueOfR (c : Dev nD) (k : Fin 5) : CellTallies nD τ sig Unit := tallyAt (dmaCell (recvR k) (peer k c)) () (N k)
def dueOfB (c : Dev nD) (k : Fin 5) : CellTallies nD τ sig Unit := tallyAt (barCell (peer k c)) () 1

/-- Owed before the doubling step with partner `n - 1` (they run from partner 4 down to partner 0). -/
def dueA (c : Dev nD) : ℕ → CellTallies nD τ sig Unit
  | 0 => 0
  | n + 1 => dueA c n + dueOfA c (Fin.ofNat 5 n)
/-- Owed when `n` halving steps are left. -/
def dueR (c : Dev nD) : ℕ → CellTallies nD τ sig Unit
  | 0 => dueA c 5
  | n + 1 => dueR c n + dueOfR c (Fin.ofNat 5 (4 - n))
/-- Owed when `n` signals are left. -/
def dueB (c : Dev nD) : ℕ → CellTallies nD τ sig Unit
  | 0 => dueR c 5
  | n + 1 => dueB c n + dueOfB c (Fin.ofNat 5 (4 - n))

theorem ofNat_val (k : Fin 5) : Fin.ofNat 5 k.val = k := Fin.ext (Nat.mod_eq_of_lt k.isLt)

theorem dueA_step (c : Dev nD) (k : Fin 5) : dueA c (k.val + 1) = dueA c k.val + dueOfA c k := by
  show dueA c k.val + dueOfA c (Fin.ofNat 5 k.val) = _; rw [ofNat_val]
theorem dueR_step (c : Dev nD) (k : Fin 5) : dueR c (4 - k.val + 1) = dueR c (4 - k.val) + dueOfR c k := by
  show dueR c (4 - k.val) + dueOfR c (Fin.ofNat 5 (4 - (4 - k.val))) = _
  rw [show 4 - (4 - k.val) = k.val by omega, ofNat_val]
theorem dueB_step (c : Dev nD) (k : Fin 5) : dueB c (4 - k.val + 1) = dueB c (4 - k.val) + dueOfB c k := by
  show dueB c (4 - k.val) + dueOfB c (Fin.ofNat 5 (4 - (4 - k.val))) = _
  rw [show 4 - (4 - k.val) = k.val by omega, ofNat_val]

/-- Owed at launch. -/
abbrev O₀ (c : Dev nD) : CellTallies nD τ sig Unit := dueB c 5

def L (g : GSem nD τ sig) : Finset Unit := if g.1.2 = .tc then {()} else ∅
/-- Barrier cells stand at 1, receive cells above in the order of the steps, everything else at 0. -/
def lv (g : GSem nD τ sig) (_ : Unit) : ℕ := match g.2 with | .reg _ => 1 | .dma s => if 16 ≤ s.val then s.val - 14 else 0

theorem L_of_ne (g : GSem nD τ sig) (h : g.1.2 ≠ .tc) : L g = ∅ := if_neg h
theorem L_tc (c : Dev nD) (sm : SemLoc sig) : L ((c : Thread nD τ), sm) = {()} := if_pos rfl

/-- Everything owed is owed to cells above level `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.add_pos_iff_pos_or_pos.mp hg with h1 | h1
  · exact h g u h1
  · exact h' g u h1
theorem Above.tally {n N : ℕ} {c : Dev nD} {sm : SemLoc sig} (h : n < lv ((c : Thread nD τ), sm) ()) : Above n (tallyAt ((c : Thread nD τ), sm) () N) := fun g u hg => by
  rw [tallyAt_apply] at hg
  split at hg
  · next e => rw [e.1]; exact ⟨rfl, h⟩
  · exact absurd hg (Nat.lt_irrefl 0)

theorem Above.mono {n n' : ℕ} {O : CellTallies nD τ sig Unit} (h : Above n O) (hn : n' ≤ n) : Above n' O := fun g u hg => ⟨(h g u hg).1, lt_of_le_of_lt hn (h g u hg).2⟩

theorem mayWait_of_above {n : ℕ} {O : CellTallies nD τ sig Unit} (h : Above n O) (c : Dev nD) (sm : SemLoc sig) (hs : lv ((c : Thread nD τ), sm) () ≤ n) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact hs)
    (fun g u hg => (h g u hg).2)

theorem lv_recvA (c : Dev nD) (k : Fin 5) : lv (dmaCell (recvA k) c) () = 11 - k.val := by
  show (if 16 ≤ (recvA k).val then (recvA k).val - 14 else 0) = _
  revert k; decide
theorem lv_recvR (c : Dev nD) (k : Fin 5) : lv (dmaCell (recvR k) c) () = 2 + k.val := by
  show (if 16 ≤ (recvR k).val then (recvR k).val - 14 else 0) = _
  revert k; decide
theorem lv_sendA (c : Dev nD) (k : Fin 5) : lv (dmaCell (sendA k) c) () = 0 := by
  show (if 16 ≤ (sendA k).val then (sendA k).val - 14 else 0) = _
  revert k; decide
theorem lv_sendR (c : Dev nD) (k : Fin 5) : lv (dmaCell (sendR k) c) () = 0 := by
  show (if 16 ≤ (sendR k).val then (sendR k).val - 14 else 0) = _
  revert k; decide

theorem above_A {n : ℕ} (c : Dev nD) (k : Fin 5) (h : n < 11 - k.val) : Above n (dueOfA c k) := Above.tally (by rw [lv_recvA]; exact h)
theorem above_R {n : ℕ} (c : Dev nD) (k : Fin 5) (h : n < 2 + k.val) : Above n (dueOfR c k) := Above.tally (by rw [lv_recvR]; exact h)
theorem above_B {n : ℕ} (c : Dev nD) (k : Fin 5) (h : n < 1) : Above n (dueOfB c k) := Above.tally (sm := .reg barS) h

/-- Before the doubling step with partner `n - 1` only cells above level `11 - n` are owed to. -/
theorem above_dueA (c : Dev nD) (n : ℕ) (hn : n ≤ 5) : Above (11 - n) (dueA c n) := by
  induction n with
  | zero => exact Above.zero _
  | succ n ih =>
    refine Above.add ((ih (by omega)).mono (by omega)) (above_A c _ ?_)
    show 11 - (n + 1) < 11 - n % 5
    omega
/-- When `n` halving steps are left, only cells above level `6 - n` are owed to. -/
theorem above_dueR (c : Dev nD) (n : ℕ) (hn : n ≤ 5) : Above (6 - n) (dueR c n) := by
  induction n with
  | zero => exact above_dueA c 5 (by omega)
  | succ n ih =>
    refine Above.add ((ih (by omega)).mono (by omega)) (above_R c _ ?_)
    show 6 - (n + 1) < 2 + (4 - n) % 5
    omega
theorem above_dueB (c : Dev nD) (n : ℕ) (hn : n ≤ 5) : Above 0 (dueB c n) := by
  induction n with
  | zero => exact (above_dueR c 5 (by omega)).mono (by omega)
  | succ n ih => exact Above.add (ih (by omega)) (above_B c _ (by omega))

abbrev 𝒱₀ : Variants := Variants.none

/-- Once its single round is over, a cell's counter is back in hand, at zero. -/
theorem close (κ : ℕ) (g : GSem nD τ sig) :
    iprop(cellInv ER (Rd P) κ g ∗ atPos ER g (0 + 1) ∅ 0) ⊢ (|={Set.univ}=> semVal g 0 : sProp 𝕄) :=
  Rounds.cell_close ER (Rd P) (Set.mem_univ κ) id (duties_later P g)

end Cert.AllReduce

end
-- ==== Proof.Exchange.lean ====
/-
One halving step and one doubling step of the all-reduce, each proved once at a symbolic device and a symbolic step: what
the step needs, what it leaves, and that the printed operations of the step take the one to the other.
-/
module

public import proofs.«01_k».proof.Proof.Protocol

@[expose] public section

noncomputable section

namespace Cert.AllReduce

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Parts F)

/-- The invariant of one cell, under the name the launch gave it. -/
def inv (K : GSem nD τ sig → ℕ) (g : GSem nD τ sig) : sProp 𝕄 := cellInv ER (Rd P) (K g) g
instance inv_persistent (K : GSem nD τ sig → ℕ) (g : GSem nD τ sig) : BI.Persistent (inv P K g) := by unfold inv; infer_instance

/-- The accumulator before halving step `k`: right on the rows of the segment. -/
def accAt (k : Fin 6) (c : Dev nD) : sProp 𝕄 :=
  iprop(∃ f, ⌜∀ i ∈ rows 1024 (seg k c) (span k), f i = acc P k c i⌝ ∗ accPts c f)

/-- The rights a device exercises on the two cells of its own and the one of its partner at halving step `k`. -/
def rsGhost (K : GSem nD τ sig → ℕ) (k : Fin 5) (c : Dev nD) : sProp 𝕄 :=
  iprop(inv P K (dmaCell (sendR k) c) ∗ inv P K (dmaCell (recvR k) (peer k c)) ∗ inv P K (dmaCell (recvR k) c)
    ∗ reached ER (dmaCell (sendR k) c) 0 ∗ atPos ER (dmaCell (sendR k) c) 0 ∅ 0 ∗ atPos ER (dmaCell (recvR k) c) 0 ∅ 0
    ∗ dutyTok ER (dmaCell (sendR k) c) 0 0 ∗ dutyTok ER (dmaCell (recvR k) (peer k c)) 0 0 ∗ cred (tallyAt (dmaCell (recvR k) c) () (N k)))

/-- What halving step `k` starts from. -/
def rsPre (K : GSem nD τ sig → ℕ) (k : Fin 5) (c : Dev nD) : sProp 𝕄 :=
  iprop(rsGhost P K k c ∗ levAts L lv ∗ reached ER (dmaCell (recvR k) (peer k c)) 0
    ∗ (∃ f, rvPts (peer k c) (rows 992 (slot k) (half k)) f)
    ∗ accAt P k.castSucc c ∗ (∃ f, stPts c Finset.univ f) ∗ ∃ W, owes (c : Thread nD τ) (dueR c (4 - k.val + 1)) W)

/-- What it leaves: the sum is one step further, the two counters and the own place in the receive buffer are back. -/
def rsPost (k : Fin 5) (c : Dev nD) : sProp 𝕄 :=
  iprop((semVal (dmaCell (sendR k) c) 0 ∗ semVal (dmaCell (recvR k) c) 0) ∗ (∃ f, rvPts c (rows 992 (slot k) (half k)) f)
    ∗ accAt P k.succ c ∗ (∃ f, stPts c Finset.univ f) ∗ ∃ W, owes (c : Thread nD τ) (dueR c (4 - k.val)) W)

/-- A copy of rows into the partner's receive buffer leaves there what the protocol says lands. -/
theorem landed_write (k : Fin 5) (c : Dev nD) {oS oV : Fin 2 → ℕ} (hoS : oS = ![away k c, 0]) (hoV : oV = ![slot k, 0])
    (iS : ∀ a, oS a + (![half k, 768] : Fin 2 → ℕ) a ≤ (Sh 1024).size a) (iV : ∀ a, oV a + (![half k, 768] : Fin 2 → ℕ) a ≤ (Sh 992).size a)
    (f : FVec F (Sh 1024) .f32) (hf : ∀ i ∈ rows 1024 (seg k.castSucc c) (span k.castSucc), f i = acc P k.castSucc c i)
    (fd : FVec F (Sh 992) .bf16) (i : (Sh 992).Idx) (hi : i ∈ rows 992 (slot k) (half k)) :
    ((View.whole cc0_scratch2).slice (Rect.unit (s := Sh 992) oV ![half k, 768] iV)).write (Elt F) fd
      (fun j => rnd (f ((Rect.unit (s := Sh 1024) oS ![half k, 768] iS).emb j))) Finset.univ i = landed P k (peer k c) i := by
  obtain ⟨x, rfl⟩ := unit_exists hoV iV hi
  refine (View.write_emb_of_mem (v := (View.whole cc0_scratch2).slice (Rect.unit (s := Sh 992) oV ![half k, 768] iV)) _ _ (Finset.mem_univ x)).trans ?_
  show rnd (f ((Rect.unit (s := Sh 1024) oS ![half k, 768] iS).emb x)) = landed P k (peer k c) ((Rect.unit (s := Sh 992) oV ![half k, 768] iV).emb x)
  have hV := unit_emb_rows hoV iV x
  have hS := unit_emb_rows hoS iS x
  have hx : (x 0).val < half k := (x 0).isLt
  rw [hf]
  · unfold landed
    rw [peer_peer, seg_succ_peer]
    congr 2
    refine (at2_eq ?_ ?_).symm
    · rw [hV.1, hS.1]; omega
    · rw [hV.2, hS.2]
  · rw [seg_split, Finset.mem_union]
    right; rw [mem_rows, hS.1]; omega

/-- Adding a partner's rows, rounded and widened back, to the rows kept takes the sum one step further there. -/
theorem kept_write (k : Fin 5) (c : Dev nD) {oK oV : Fin 2 → ℕ} (hoK : oK = ![seg k.succ c, 0]) (hoV : oV = ![slot k, 0])
    (iK : ∀ a, oK a + (![half k, 768] : Fin 2 → ℕ) a ≤ (Sh 1024).size a) (iV : ∀ a, oV a + (![half k, 768] : Fin 2 → ℕ) a ≤ (Sh 992).size a)
    (f : FVec F (Sh 1024) .f32) (hf : ∀ i ∈ rows 1024 (seg k.castSucc c) (span k.castSucc), f i = acc P k.castSucc c i)
    (i : (Sh 1024).Idx) (hi : i ∈ rows 1024 (seg k.succ c) (span k.succ)) :
    ((View.whole cc0_scratch0).slice (Rect.unit (s := Sh 1024) oK ![half k, 768] iK)).write (Elt F) f
      (fun j => FloatOps.addf (f ((Rect.unit (s := Sh 1024) oK ![half k, 768] iK).emb j))
        (wid (landed P k c ((Rect.unit (s := Sh 992) oV ![half k, 768] iV).emb j)))) Finset.univ i = acc P k.succ c i := by
  rw [span_succ] at hi
  obtain ⟨x, rfl⟩ := unit_exists hoK iK hi
  refine (View.write_emb_of_mem (v := (View.whole cc0_scratch0).slice (Rect.unit (s := Sh 1024) oK ![half k, 768] iK)) _ _ (Finset.mem_univ x)).trans ?_
  have hV := unit_emb_rows hoV iV x
  have hK := unit_emb_rows hoK iK x
  rw [acc_succ]
  show FloatOps.addf (f ((Rect.unit (s := Sh 1024) oK ![half k, 768] iK).emb x)) (wid (landed P k c ((Rect.unit (s := Sh 992) oV ![half k, 768] iV).emb x)))
    = FloatOps.addf _ (wid (rnd _))
  rw [hf _ (by rw [seg_split, Finset.mem_union]; left; rw [span_succ]; exact hi)]
  unfold landed
  congr 4
  refine at2_eq ?_ ?_
  · rw [hV.1, hK.1]; omega
  · rw [hV.2, hK.2]

abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

set_option backward.isDefEq.respectTransparency.types false in
/-- HALVING STEP `k`: stage the rows sent away, rounded; copy them to the partner; wait for the copy to have left and for the
    partner's to have landed; add what landed to the rows kept. -/
theorem rs_step (K : GSem nD τ sig → ℕ) (k : Fin 5) (c : Dev nD) {h : ℕ} (hh : half k = h)
    {oS oK oV oZ : Fin 2 → ℕ} (hoS : oS = ![away k c, 0]) (hoK : oK = ![seg k.succ c, 0]) (hoV : oV = ![slot k, 0]) (hoZ : oZ = ![0, 0])
    {d : Dev nD} (hd : d = peer k c) {sS sR : DmaSem sig} (hsS : sS = sendR k) (hsR : sR = recvR k)
    {iS : ∀ a, oS a + (![h, 768] : Fin 2 → ℕ) a ≤ (Sh 1024).size a} {iK : ∀ a, oK a + (![h, 768] : Fin 2 → ℕ) a ≤ (Sh 1024).size a}
    {iZ : ∀ a, oZ a + (![h, 768] : Fin 2 → ℕ) a ≤ (Sh 512).size a} {iV : ∀ a, oV a + (![h, 768] : Fin 2 → ℕ) a ≤ (Sh 992).size a}
    {pay1 : FVec F (Sh h) .f32 → FVec F (Sh h) .bf16} (hp1 : ∀ v, pay1 v = fun i => rnd (v i))
    {pay2 : FVec F (Sh h) .f32 → FVec F (Sh h) .bf16 → FVec F (Sh h) .f32} (hp2 : ∀ v w, pay2 v w = fun i => FloatOps.addf (v i) (wid (w i)))
    {hl1 hl2 hx1 hm1 hr1 hr2 hsc e1 e2 e3 e4 e5 e6 e7 hl3 hl4 hl5 hx2 hm2}
    {α : Type} {κ : Prog (TpuEff nD τ sig (Elt F) Λ₀ .tc) α} {Q : α → sProp 𝕄} :
    iprop(rsPre P K k c ∗ (rsPost P k c -∗ WP c κ Q)) ⊢ WP c
      (.op (.load (e := .f32) accM (Rect.unit (s := Sh 1024) oS ![h, 768] iS).toLoadRect hl1) fun (v1 : FVec F (Sh h) .f32) =>
      .op (.load (e := .bf16) stM (Rect.unit (s := Sh 512) oZ ![h, 768] iZ).toLoadRect hl2) fun _ =>
      .op (.store stM (Rect.unit (s := Sh 512) oZ ![h, 768] iZ) (pay1 v1) Finset.univ hx1 hm1) fun _ =>
      .op (.enqueueDma (stM.slice (Rect.unit (s := Sh 512) oZ ![h, 768] iZ) hr1)
        (.remote (Dev.tc d) (rvM.slice (Rect.unit (s := Sh 992) oV ![h, 768] iV) hr2) (.dma sS) hsc) (.dma sR) e1 e2 e3) fun _ =>
      .op (.waitDma2 sS (rvM.slice (Rect.unit (s := Sh 992) oV ![h, 768] iV) hr2) (stM.slice (Rect.unit (s := Sh 512) oZ ![h, 768] iZ) hr1) e4 e5) fun _ =>
      .op (.waitDma2 sR (stM.slice (Rect.unit (s := Sh 512) oZ ![h, 768] iZ) hr1) (rvM.slice (Rect.unit (s := Sh 992) oV ![h, 768] iV) hr2) e6 e7) fun _ =>
      .op (.load (e := .f32) accM (Rect.unit (s := Sh 1024) oK ![h, 768] iK).toLoadRect hl3) fun (v2 : FVec F (Sh h) .f32) =>
      .op (.load (e := .bf16) rvM (Rect.unit (s := Sh 992) oV ![h, 768] iV).toLoadRect hl4) fun (v3 : FVec F (Sh h) .bf16) =>
      .op (.load (e := .f32) accM (Rect.unit (s := Sh 1024) oK ![h, 768] iK).toLoadRect hl5) fun _ =>
      .op (.store accM (Rect.unit (s := Sh 1024) oK ![h, 768] iK) (pay2 v2 v3) Finset.univ hx2 hm2) fun _ => κ) Q := by
  subst hh; subst hd; subst hsS; subst hsR
  have setZ : (Rect.unit (s := Sh 512) oZ ![half k, 768] iZ).set = rows 512 0 (half k) := unit_set_rows hoZ iZ
  have setV : (Rect.unit (s := Sh 992) oV ![half k, 768] iV).set = rows 992 (slot k) (half k) := unit_set_rows hoV iV
  unfold rsPre rsGhost inv accAt
  iintro ⟨⟨⟨#HIs, #HIrP, #HIr, #HrS, HaS, HaR, HtS, HtR, HcR⟩, #Hlev, #HrP, ⟨%fd, HV⟩, ⟨%f, %hf, HA⟩, ⟨%f0, HS⟩, ⟨%W, HO⟩⟩, Hk⟩
  unfold accPts stPts rvPts
  iapply (wp_load_rect 𝒱₀ (c : Thread nD τ) none Set.univ (m := accM) (r := Rect.unit (s := Sh 1024) oS ![half k, 768] iS) (S := Finset.univ) (f := f) (Finset.subset_univ _)) $$ HA
  iintro HA
  iapply (wp_load_rect 𝒱₀ (c : Thread nD τ) none Set.univ (m := stM) (r := Rect.unit (s := Sh 512) oZ ![half k, 768] iZ) (S := Finset.univ) (f := f0) (Finset.subset_univ _)) $$ HS
  iintro HS
  iapply (wp_store 𝒱₀ (c : Thread nD τ) none Set.univ (m := stM) (r := Rect.unit (s := Sh 512) oZ ![half k, 768] iZ) (S := Finset.univ) (f := f0) (Finset.subset_univ _)) $$ HS
  iintro HS
  have hST : ∀ g : FVec F (Sh 512) .bf16, ((stM.slice (Rect.unit (s := Sh 512) oZ ![half k, 768] iZ) hr1).view.read (Elt F)
      ((stM.access (Rect.unit (s := Sh 512) oZ ![half k, 768] iZ)).write (Elt F) g
        (pay1 ((accM.access (Rect.unit (s := Sh 1024) oS ![half k, 768] iS)).read (Elt F) f)) Finset.univ))
      = fun j => rnd (f ((Rect.unit (s := Sh 1024) oS ![half k, 768] iS).emb j)) := fun g =>
    (View.read_write_univ (v := stM.access (Rect.unit (s := Sh 512) oZ ![half k, 768] iZ)) _ _).trans (hp1 _)
  have setS' : (stM.slice (Rect.unit (s := Sh 512) oZ ![half k, 768] iZ) hr1).view.set = rows 512 0 (half k) := (View.set_slice_whole _ _).trans setZ
  have setV' : (rvM.slice (Rect.unit (s := Sh 992) oV ![half k, 768] iV) hr2).view.set = rows 992 (slot k) (half k) := (View.set_slice_whole _ _).trans setV
  generalize hg : (stM.access (Rect.unit (s := Sh 512) oZ ![half k, 768] iZ)).write (Elt F) f0
        (pay1 ((accM.access (Rect.unit (s := Sh 1024) oS ![half k, 768] iS)).read (Elt F) f)) Finset.univ = g at *
  have hST' := hST f0
  rw [hg] at hST'
  icases (pointsTo_split_subset (Finset.subset_univ (rows 512 0 (half k)))).1 $$ HS with ⟨HS, HS'⟩
  rw [dueR_step c k]
  iapply (Rounds.wp_send_pointsTo 𝒱₀ ER (Rd P) (c : Thread nD τ) none (c' := (peer k c : Thread nD τ))
      (src := stM.slice (Rect.unit (s := Sh 512) oZ ![half k, 768] iZ) hr1) (dst := rvM.slice (Rect.unit (s := Sh 992) oV ![half k, 768] iV) hr2)
      (sS := .dma (sendR k)) (sem := .dma (recvR k)) (q := fullShare) (fs := g) (κ₁ := K (dmaCell (sendR k) c)) (κ₂ := K (dmaCell (recvR k) (peer k c)))
      (r₁ := 0) (r₂ := 0) (d₁ := 0) (d₂ := 0) (fd := fd)
      (by rw [duties_dma P c _ (sendR_le k)]; exact Finset.mem_singleton_self _) (by rw [duties_dma P _ _ (recvR_le k)]; exact Finset.mem_singleton_self _)
      () () (N k) rfl (congrArg N (step_sendR k)) (congrArg N (step_recvR k)) (dueR c (4 - k.val)) rfl (W := W)
      (by
        show _ ⊢ dmaPay P c (sendR k).val
        rw [pay_sendR, setS']; unfold sendRPay stPts
        iintro H; iexists g; iexact H)
      (by
        show _ ⊢ dmaPay P (peer k c) (recvR k).val
        rw [pay_recvR, setV', hST']; unfold recvRPay rvPts
        exact Entails.of_eq (pointsTo_congr fun i hi => landed_write P k c hoS hoV iS iV f hf fd i hi))) $$ [HS HV HO HtS HtR]
  · isplitr; · iexact HIs
    isplitr; · iexact HIrP
    isplitl [HS]; · rw [setS']; iexact HS
    isplitl [HV]; · rw [setV']; iexact HV
    isplitl [HO]; · iexact HO
    isplitl [HtS]; · iexact HtS
    isplitr; · iexact HrS
    isplitl [HtR]; · iexact HtR
    iexact HrP
  iintro ⟨HcS, HO⟩
  iapply (Rounds.wp_wait_rest_token 𝒱₀ ER (Rd P) (c : Thread nD τ) none (κ := K (dmaCell (sendR k) c))
      (wpE_waitDma2_eq (sem := sendR k) (src := (rvM.slice (Rect.unit (s := Sh 992) oV ![half k, 768] iV) hr2)) (dst := (stM.slice (Rect.unit (s := Sh 512) oZ ![half k, 768] iZ) hr1)) 𝒱₀ (c : Thread nD τ) none Set.univ) (Set.mem_univ _) () (O := dueR c (4 - k.val)) (W := W) (R := 0) (m := 0) (T := ∅)
      ((Nat.zero_add _).trans ((expect_dma P c _ (sendR_le k)).trans (congrArg N (step_sendR k))).symm)) $$ [HcS HO HaS]
  · isplitr; · iexact HIs
    isplitl [HcS]; · iexact HcS
    isplitl [HO]; · iexact HO
    isplitr
    · iapply (mayWait_of_above (above_dueR c (4 - k.val) (by omega)) c (.dma (sendR k)) (by rw [lv_sendR]; exact Nat.zero_le _)); iexact Hlev
    iexact HaS
  iintro ⟨HO, HaS, -, Hpay⟩
  ihave HS := (Entails.of_eq ((rest_dma P c _ (sendR_le k)).trans (pay_sendR P c k))) $$ Hpay
  iapply (Rounds.wp_wait_rest_token 𝒱₀ ER (Rd P) (c : Thread nD τ) none (κ := K (dmaCell (recvR k) c))
      (wpE_waitDma2_eq (sem := recvR k) (src := (stM.slice (Rect.unit (s := Sh 512) oZ ![half k, 768] iZ) hr1)) (dst := (rvM.slice (Rect.unit (s := Sh 992) oV ![half k, 768] iV) hr2)) 𝒱₀ (c : Thread nD τ) none Set.univ) (Set.mem_univ _) () (O := dueR c (4 - k.val)) (R := 0) (m := 0) (T := ∅)
      ((Nat.zero_add _).trans ((expect_dma P c _ (recvR_le k)).trans (congrArg N (step_recvR k))).symm)) $$ [HcR HO HaR]
  · isplitr; · iexact HIr
    isplitl [HcR]; · iexact HcR
    isplitl [HO]; · iexact HO
    isplitr
    · iapply (mayWait_of_above (above_dueR c (4 - k.val) (by omega)) c (.dma (recvR k)) (by rw [lv_recvR]; have := k.isLt; omega)); iexact Hlev
    iexact HaR
  iintro ⟨HO, HaR, -, Hpay⟩
  ihave HV := (Entails.of_eq ((rest_dma P c _ (recvR_le k)).trans (pay_recvR P c k))) $$ Hpay
  imod (close P (K (dmaCell (sendR k) c)) (dmaCell (sendR k) c)) $$ [HaS] with Hs0
  · isplitr; · iexact HIs
    iexact HaS
  imod (close P (K (dmaCell (recvR k) c)) (dmaCell (recvR k) c)) $$ [HaR] with Hr0
  · isplitr; · iexact HIr
    iexact HaR
  unfold sendRPay recvRPay stPts rvPts
  icases HS with ⟨%g', HS⟩
  ihave HS := (pointsTo_join_subset (ℓ := stM.view.loc (c : Thread nD τ)) (I := rows 512 0 (half k)) (S := Finset.univ) (Finset.subset_univ (rows 512 0 (half k)))) $$ [HS HS']
  · isplitl [HS]; · iexact HS
    iexact HS'
  iapply (wp_load_rect 𝒱₀ (c : Thread nD τ) none Set.univ (m := accM) (r := Rect.unit (s := Sh 1024) oK ![half k, 768] iK) (S := Finset.univ) (f := f) (Finset.subset_univ _)) $$ HA
  iintro HA
  iapply (wp_load_rect 𝒱₀ (c : Thread nD τ) none Set.univ (m := rvM) (r := Rect.unit (s := Sh 992) oV ![half k, 768] iV) (S := rows 992 (slot k) (half k)) (f := landed P k c) (setV'.le)) $$ HV
  iintro HV
  iapply (wp_load_rect 𝒱₀ (c : Thread nD τ) none Set.univ (m := accM) (r := Rect.unit (s := Sh 1024) oK ![half k, 768] iK) (S := Finset.univ) (f := f) (Finset.subset_univ _)) $$ HA
  iintro HA
  iapply (wp_store 𝒱₀ (c : Thread nD τ) none Set.univ (m := accM) (r := Rect.unit (s := Sh 1024) oK ![half k, 768] iK) (S := Finset.univ) (f := f) (Finset.subset_univ _)) $$ HA
  iintro HA
  iapply Hk
  unfold rsPost accAt accPts rvPts stPts
  isplitl [Hs0 Hr0]
  · isplitl [Hs0]; · iexact Hs0
    iexact Hr0
  isplitl [HV]; · iexists _; iexact HV
  isplitl [HA]
  · iexists _
    isplitr
    · ipureintro
      intro i hi
      exact (congrArg (fun w => (accM.access (Rect.unit (s := Sh 1024) oK ![half k, 768] iK)).write (Elt F) f w Finset.univ i) (hp2 _ _)).trans
        (kept_write P k c hoK hoV iK iV f hf i hi)
    · iexact HA
  isplitl [HS]; · iexists _; iexact HS
  iexists _; iexact HO

/-- The rights exercised at the doubling step with partner `r`. -/
def agGhost (K : GSem nD τ sig → ℕ) (r : Fin 5) (c : Dev nD) : sProp 𝕄 :=
  iprop(inv P K (dmaCell (sendA r) c) ∗ inv P K (dmaCell (recvA r) (peer r c)) ∗ inv P K (dmaCell (recvA r) c)
    ∗ reached ER (dmaCell (sendA r) c) 0 ∗ atPos ER (dmaCell (sendA r) c) 0 ∅ 0 ∗ atPos ER (dmaCell (recvA r) c) 0 ∅ 0
    ∗ dutyTok ER (dmaCell (sendA r) c) 0 0 ∗ dutyTok ER (dmaCell (recvA r) (peer r c)) 0 0 ∗ cred (tallyAt (dmaCell (recvA r) c) () (N r)))

/-- What the doubling step with partner `r` starts from: the rows gathered so far are the total's. -/
def agPre (K : GSem nD τ sig → ℕ) (r : Fin 5) (c : Dev nD) : sProp 𝕄 :=
  iprop(agGhost P K r c ∗ levAts L lv ∗ reached ER (dmaCell (recvA r) (peer r c)) 0
    ∗ (∃ f, agPts (peer r c) (rows 1024 (seg r.succ c) (half r)) f)
    ∗ agPts c (rows 1024 (seg r.succ c) (span r.succ)) (total P) ∗ ∃ W, owes (c : Thread nD τ) (dueA c (r.val + 1)) W)

/-- What it leaves: twice as many rows are the total's. -/
def agPost (r : Fin 5) (c : Dev nD) : sProp 𝕄 :=
  iprop((semVal (dmaCell (sendA r) c) 0 ∗ semVal (dmaCell (recvA r) c) 0)
    ∗ agPts c (rows 1024 (seg r.castSucc c) (span r.castSucc)) (total P) ∗ ∃ W, owes (c : Thread nD τ) (dueA c r.val) W)

set_option backward.isDefEq.respectTransparency.types false in
/-- DOUBLING STEP with partner `r`: copy the rows gathered so far to the partner, wait for them to have left and for the
    partner's to have landed. -/
theorem ag_step (K : GSem nD τ sig → ℕ) (r : Fin 5) (c : Dev nD) {h : ℕ} (hh : half r = h)
    {oK : Fin 2 → ℕ} (hoK : oK = ![seg r.succ c, 0]) {d : Dev nD} (hd : d = peer r c)
    {sS sR : DmaSem sig} (hsS : sS = sendA r) (hsR : sR = recvA r)
    {iK : ∀ a, oK a + (![h, 768] : Fin 2 → ℕ) a ≤ (Sh 1024).size a}
    {hr1 hr2 hsc e1 e2 e3 e4 e5 e6 e7}
    {α : Type} {κ : Prog (TpuEff nD τ sig (Elt F) Λ₀ .tc) α} {Q : α → sProp 𝕄} :
    iprop(agPre P K r c ∗ (agPost P r c -∗ WP c κ Q)) ⊢ WP c
      (.op (.enqueueDma (agM.slice (Rect.unit (s := Sh 1024) oK ![h, 768] iK) hr1)
        (.remote (Dev.tc d) (agM.slice (Rect.unit (s := Sh 1024) oK ![h, 768] iK) hr2) (.dma sS) hsc) (.dma sR) e1 e2 e3) fun _ =>
      .op (.waitDma2 sS (agM.slice (Rect.unit (s := Sh 1024) oK ![h, 768] iK) hr2) (agM.slice (Rect.unit (s := Sh 1024) oK ![h, 768] iK) hr1) e4 e5) fun _ =>
      .op (.waitDma2 sR (agM.slice (Rect.unit (s := Sh 1024) oK ![h, 768] iK) hr1) (agM.slice (Rect.unit (s := Sh 1024) oK ![h, 768] iK) hr2) e6 e7) fun _ => κ) Q := by
  subst hh; subst hd; subst hsS; subst hsR
  have set1 : (agM.slice (Rect.unit (s := Sh 1024) oK ![half r, 768] iK) hr1).view.set = rows 1024 (seg r.succ c) (half r) := (View.set_slice_whole _ _).trans (unit_set_rows hoK iK)
  have set2 : (agM.slice (Rect.unit (s := Sh 1024) oK ![half r, 768] iK) hr2).view.set = rows 1024 (seg r.succ c) (half r) := (View.set_slice_whole _ _).trans (unit_set_rows hoK iK)
  unfold agPre agGhost inv
  rw [span_succ]
  iintro ⟨⟨⟨#HIs, #HIrP, #HIr, #HrS, HaS, HaR, HtS, HtR, HcR⟩, #Hlev, #HrP, ⟨%fd, HV⟩, HS, ⟨%W, HO⟩⟩, Hk⟩
  unfold agPts
  rw [dueA_step c r]
  iapply (Rounds.wp_send_pointsTo 𝒱₀ ER (Rd P) (c : Thread nD τ) none (c' := (peer r c : Thread nD τ))
      (src := (agM.slice (Rect.unit (s := Sh 1024) oK ![half r, 768] iK) hr1)) (dst := (agM.slice (Rect.unit (s := Sh 1024) oK ![half r, 768] iK) hr2))
      (sS := .dma (sendA r)) (sem := .dma (recvA r)) (q := fullShare) (fs := total P) (κ₁ := K (dmaCell (sendA r) c)) (κ₂ := K (dmaCell (recvA r) (peer r c)))
      (r₁ := 0) (r₂ := 0) (d₁ := 0) (d₂ := 0) (fd := fd)
      (by rw [duties_dma P c _ (sendA_le r)]; exact Finset.mem_singleton_self _) (by rw [duties_dma P _ _ (recvA_le r)]; exact Finset.mem_singleton_self _)
      () () (N r) rfl (congrArg N (step_sendA r)) (congrArg N (step_recvA r)) (dueA c r.val) rfl (W := W)
      (by
        show _ ⊢ dmaPay P c (sendA r).val
        rw [pay_sendA, set1]; exact BI.Entails.refl _)
      (by
        show _ ⊢ dmaPay P (peer r c) (recvA r).val
        rw [pay_recvA, set2]; unfold recvAPay agPts
        rw [away_peer]
        refine Entails.of_eq (pointsTo_congr fun i hi => ?_)
        obtain ⟨x, rfl⟩ := unit_exists hoK iK hi
        exact View.write_emb_of_mem (v := (View.whole cc0_scratch3).slice (Rect.unit (s := Sh 1024) oK ![half r, 768] iK)) _ _ (Finset.mem_univ x))) $$ [HS HV HO HtS HtR]
  · isplitr; · iexact HIs
    isplitr; · iexact HIrP
    isplitl [HS]; · rw [set1]; iexact HS
    isplitl [HV]; · rw [set2]; iexact HV
    isplitl [HO]; · iexact HO
    isplitl [HtS]; · iexact HtS
    isplitr; · iexact HrS
    isplitl [HtR]; · iexact HtR
    iexact HrP
  iintro ⟨HcS, HO⟩
  iapply (Rounds.wp_wait_rest_token 𝒱₀ ER (Rd P) (c : Thread nD τ) none (κ := K (dmaCell (sendA r) c))
      (wpE_waitDma2_eq (sem := sendA r) (src := (agM.slice (Rect.unit (s := Sh 1024) oK ![half r, 768] iK) hr2)) (dst := (agM.slice (Rect.unit (s := Sh 1024) oK ![half r, 768] iK) hr1)) 𝒱₀ (c : Thread nD τ) none Set.univ) (Set.mem_univ _) () (O := dueA c r.val) (W := W) (R := 0) (m := 0) (T := ∅)
      ((Nat.zero_add _).trans ((expect_dma P c _ (sendA_le r)).trans (congrArg N (step_sendA r))).symm)) $$ [HcS HO HaS]
  · isplitr; · iexact HIs
    isplitl [HcS]; · iexact HcS
    isplitl [HO]; · iexact HO
    isplitr
    · iapply (mayWait_of_above (above_dueA c r.val (by omega)) c (.dma (sendA r)) (by rw [lv_sendA]; exact Nat.zero_le _)); iexact Hlev
    iexact HaS
  iintro ⟨HO, HaS, -, Hpay⟩
  ihave HS := (Entails.of_eq ((rest_dma P c _ (sendA_le r)).trans (pay_sendA P c r))) $$ Hpay
  iapply (Rounds.wp_wait_rest_token 𝒱₀ ER (Rd P) (c : Thread nD τ) none (κ := K (dmaCell (recvA r) c))
      (wpE_waitDma2_eq (sem := recvA r) (src := (agM.slice (Rect.unit (s := Sh 1024) oK ![half r, 768] iK) hr1)) (dst := (agM.slice (Rect.unit (s := Sh 1024) oK ![half r, 768] iK) hr2)) 𝒱₀ (c : Thread nD τ) none Set.univ) (Set.mem_univ _) () (O := dueA c r.val) (R := 0) (m := 0) (T := ∅)
      ((Nat.zero_add _).trans ((expect_dma P c _ (recvA_le r)).trans (congrArg N (step_recvA r))).symm)) $$ [HcR HO HaR]
  · isplitr; · iexact HIr
    isplitl [HcR]; · iexact HcR
    isplitl [HO]; · iexact HO
    isplitr
    · iapply (mayWait_of_above (above_dueA c r.val (by omega)) c (.dma (recvA r)) (by rw [lv_recvA])); iexact Hlev
    iexact HaR
  iintro ⟨HO, HaR, -, Hpay⟩
  ihave HV := (Entails.of_eq ((rest_dma P c _ (recvA_le r)).trans (pay_recvA P c r))) $$ Hpay
  imod (close P (K (dmaCell (sendA r) c)) (dmaCell (sendA r) c)) $$ [HaS] with Hs0
  · isplitr; · iexact HIs
    iexact HaS
  imod (close P (K (dmaCell (recvA r) c)) (dmaCell (recvA r) c)) $$ [HaR] with Hr0
  · isplitr; · iexact HIr
    iexact HaR
  iapply Hk
  unfold agPost
  isplitl [Hs0 Hr0]
  · isplitl [Hs0]; · iexact Hs0
    iexact Hr0
  isplitl [HS HV]
  · rw [seg_split]
    unfold sendAPay recvAPay agPts
    rw [span_succ]
    iapply (pointsTo_union (span_succ r ▸ seg_disjoint r c)).2
    isplitl [HS]; · iexact HS
    iexact HV
  iexists _; iexact HO

set_option backward.isDefEq.respectTransparency.types false in
/-- The device's own rows, fully reduced, are rounded into the gather buffer: those rows are the total's. -/
theorem ag_start (c : Dev nD) {oK : Fin 2 → ℕ} (hoK : oK = ![seg 5 c, 0])
    {iK : ∀ a, oK a + (![32, 768] : Fin 2 → ℕ) a ≤ (Sh 1024).size a}
    {pay : FVec F (Sh 32) .f32 → FVec F (Sh 32) .bf16} (hp : ∀ v, pay v = fun i => rnd (v i)) {hl1 hl2 hx hm}
    {α : Type} {κ : Prog (TpuEff nD τ sig (Elt F) Λ₀ .tc) α} {Q : α → sProp 𝕄} :
    iprop((accAt P 5 c ∗ ∃ f, agPts c (rows 1024 (seg 5 c) 32) f)
        ∗ ((∃ f, accPts c f) ∗ agPts c (rows 1024 (seg 5 c) 32) (total P) -∗ WP c κ Q)) ⊢ WP c
      (.op (.load (e := .f32) accM (Rect.unit (s := Sh 1024) oK ![32, 768] iK).toLoadRect hl1) fun (v1 : FVec F (Sh 32) .f32) =>
      .op (.load (e := .bf16) agM (Rect.unit (s := Sh 1024) oK ![32, 768] iK).toLoadRect hl2) fun _ =>
      .op (.store agM (Rect.unit (s := Sh 1024) oK ![32, 768] iK) (pay v1) Finset.univ hx hm) fun _ => κ) Q := by
  have hset : (agM.access (Rect.unit (s := Sh 1024) oK ![32, 768] iK)).set = rows 1024 (seg 5 c) 32 := (View.set_slice_whole _ _).trans (unit_set_rows hoK iK)
  unfold accAt accPts agPts
  iintro ⟨⟨⟨%f, %hf, HA⟩, ⟨%g, HG⟩⟩, Hk⟩
  iapply (wp_load_rect 𝒱₀ (c : Thread nD τ) none Set.univ (m := accM) (r := Rect.unit (s := Sh 1024) oK ![32, 768] iK) (S := Finset.univ) (f := f) (Finset.subset_univ _)) $$ HA
  iintro HA
  iapply (wp_load_rect 𝒱₀ (c : Thread nD τ) none Set.univ (m := agM) (r := Rect.unit (s := Sh 1024) oK ![32, 768] iK) (S := rows 1024 (seg 5 c) 32) (f := g) hset.le) $$ HG
  iintro HG
  iapply (wp_store 𝒱₀ (c : Thread nD τ) none Set.univ (m := agM) (r := Rect.unit (s := Sh 1024) oK ![32, 768] iK) (S := rows 1024 (seg 5 c) 32) (f := g) hset.le) $$ HG
  iintro HG
  iapply Hk
  isplitl [HA]; · iexists f; iexact HA
  ihave HG := (Entails.of_eq (pointsTo_congr (g := total P) (fun i hi => by
    obtain ⟨x, rfl⟩ := unit_exists hoK iK hi
    refine (View.write_emb_of_mem (v := (View.whole cc0_scratch3).slice (Rect.unit (s := Sh 1024) oK ![32, 768] iK)) _ _ (Finset.mem_univ x)).trans ?_
    refine (congrFun (hp _) x).trans ?_
    show rnd (f ((Rect.unit (s := Sh 1024) oK ![32, 768] iK).emb x)) = total P _
    have hx0 : (x 0).val < 32 := (x 0).isLt
    have he := unit_emb_rows hoK iK x
    rw [hf _ hi]
    unfold total
    have ho : ((Rect.unit (s := Sh 1024) oK ![32, 768] iK).emb x 0 : Fin 1024) = ⟨seg 5 c + (⟨(x 0).val, hx0⟩ : Fin 32).val, he.1 ▸ ((Rect.unit (s := Sh 1024) oK ![32, 768] iK).emb x 0).isLt⟩ := Fin.ext he.1
    have ho' : owner ((Rect.unit (s := Sh 1024) oK ![32, 768] iK).emb x 0) = c := (congrArg owner ho).trans (owner_seg c _ _)
    exact congrArg (fun o => rnd (acc P 5 o ((Rect.unit (s := Sh 1024) oK ![32, 768] iK).emb x))) ho'.symm))) $$ HG
  iexact HG

/-- What the signal to partner `k` takes. -/
def sigPre (K : GSem nD τ sig → ℕ) (k : Fin 5) (c : Dev nD) : sProp 𝕄 :=
  iprop(inv P K (barCell (peer k c)) ∗ reached ER (barCell (peer k c)) 0 ∗ dutyTok ER (barCell (peer k c)) 0 k
    ∗ (∃ f, rvPts c (rows 992 (slot k) (half k)) f) ∗ (∃ f, agPts c (rows 1024 (away k c) (half k)) f)
    ∗ reached ER (dmaCell (recvR k) c) 0 ∗ reached ER (dmaCell (recvA k) c) 0 ∗ ∃ W, owes (c : Thread nD τ) (dueB c (4 - k.val + 1)) W)

set_option backward.isDefEq.respectTransparency.types false in
/-- A SIGNAL to partner `k` hands it the places it writes here. -/
theorem signal_step (K : GSem nD τ sig → ℕ) (k : Fin 5) (c : Dev nD) {d : Dev nD} (hd : d = peer k c)
    {α : Type} {κ : Prog (TpuEff nD τ sig (Elt F) Λ₀ .tc) α} {Q : α → sProp 𝕄} :
    iprop(sigPre P K k c ∗ ((∃ W, owes (c : Thread nD τ) (dueB c (4 - k.val)) W) -∗ WP c κ Q)) ⊢ WP c
      (.op (.semSignal (d, .tc) barS (1#32 : BitVec 32).toInt) fun _ => κ) Q := by
  subst hd
  unfold sigPre inv
  iintro ⟨⟨#HI, #Hr, Ht, HV, HG, #H1, #H2, ⟨%W, HO⟩⟩, Hk⟩
  rw [dueB_step c k]
  iapply (Rounds.wp_signal 𝒱₀ ER (Rd P) (c : Thread nD τ) none (dst := (peer k c : Thread nD τ)) (sem := barS) (r := 0) (d := k) (κ := K (barCell (peer k c)))
      (by rw [duties_bar]; exact Finset.mem_univ _) (amount_bar P (peer k c) k) () (dueB c (4 - k.val)) rfl) $$ [HO Ht HV HG]
  · isplitr; · iexact HI
    isplitl [HO]; · iexact HO
    isplitl [Ht]; · iexact Ht
    isplitl [HV HG]
    · iapply (show (barPay (peer k c) k : sProp 𝕄) ⊢ (Rd P).payload (barCell (peer k c)) 0 k from BI.Entails.refl _)
      unfold barPay
      rw [peer_peer, seg_succ_peer]
      isplitl [HV]; · iexact HV
      isplitl [HG]; · iexact HG
      isplitr; · iexact H1
      iexact H2
    · iexact Hr
  iintro HO
  iapply Hk
  iexists W; iexact HO

set_option backward.isDefEq.respectTransparency.types false in
/-- The WAIT for all five partners: every place this device writes is in hand. -/
theorem barrier_step (K : GSem nD τ sig → ℕ) (c : Dev nD)
    {α : Type} {κ : Prog (TpuEff nD τ sig (Elt F) Λ₀ .tc) α} {Q : α → sProp 𝕄} :
    iprop((inv P K (barCell c) ∗ levAts L lv ∗ cred (tallyAt (barCell c) () 5) ∗ atPos ER (barCell c) 0 ∅ 0 ∗ ∃ W, owes (c : Thread nD τ) (dueR c 5) W)
      ∗ ((semVal (barCell c) 0 ∗ bigSep Finset.univ (fun k => (barPay c k : sProp 𝕄)) ∗ ∃ W, owes (c : Thread nD τ) (dueR c 5) W) -∗ WP c κ Q)) ⊢ WP c
      (.op (.semWait barS (5#32 : BitVec 32).toInt) fun _ => κ) Q := by
  unfold inv
  iintro ⟨⟨#HI, #Hlev, Hc, Ha, ⟨%W, HO⟩⟩, Hk⟩
  iapply (Rounds.wp_wait_rest_token 𝒱₀ ER (Rd P) (c : Thread nD τ) none (κ := K (barCell c))
      (wpE_semWait_eq 𝒱₀ (c : Thread nD τ) none Set.univ) (Set.mem_univ _) () (O := dueR c 5) (W := W) (R := 0) (m := 0) (T := ∅)
      ((Nat.zero_add 5).trans (expect_bar P c).symm)) $$ [Hc HO Ha]
  · isplitr; · iexact HI
    isplitl [Hc]; · iexact Hc
    isplitl [HO]; · iexact HO
    isplitr
    · iapply (mayWait_of_above (above_dueR c 5 (by omega)) c (.reg barS) (le_refl _)); iexact Hlev
    iexact Ha
  iintro ⟨HO, Ha, -, Hpay⟩
  ihave Hp := (Entails.of_eq (rest_bar P c)) $$ Hpay
  imod (close P (K (barCell c)) (barCell c)) $$ [Ha] with Hs0
  · isplitr; · iexact HI
    iexact Ha
  iapply Hk
  isplitl [Hs0]; · iexact Hs0
  isplitl [Hp]; · iexact Hp
  iexists _; iexact HO

end Cert.AllReduce

end
-- ==== Proof.Packs.lean ====
/-
What a device holds for the exchange, packed so that each step takes one thing beside the running state: the parts its
buffers are split into, the rights of the steps with each partner, and the running state between steps.
-/
module

public import proofs.«01_k».proof.Proof.Exchange

@[expose] public section

noncomputable section

namespace Cert.AllReduce

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Parts F)

/-- Five things, one after another. -/
theorem five (Φ : Fin 5 → sProp 𝕄) : bigSep Finset.univ Φ = iprop(Φ 0 ∗ Φ 1 ∗ Φ 2 ∗ Φ 3 ∗ Φ 4) := by
  rw [bigSep_univ_eq_bigSepL [0, 1, 2, 3, 4] (by decide) (by decide)]
  rfl

/-! ## Parts of buffers -/

/-- Some rows of a buffer, at contents not chosen. -/
def rvAny (c : Dev nD) (o n : ℕ) : sProp 𝕄 := iprop(∃ f, rvPts c (rows 992 o n) f)
def agAny (c : Dev nD) (o n : ℕ) : sProp 𝕄 := iprop(∃ f, agPts c (rows 1024 o n) f)
def stAny (c : Dev nD) : sProp 𝕄 := iprop(∃ f, stPts c Finset.univ f)

/-- The receive buffer's rows split and join. -/
theorem rv_cut (c : Dev nD) (o n n' : ℕ) : (rvAny c o (n + n') : sProp 𝕄) ⊢ iprop(rvAny c o n ∗ rvAny c (o + n) n') := by
  unfold rvAny rvPts
  iintro ⟨%f, H⟩
  rw [← rows_union]
  ihave H := (pointsTo_union (rows_disjoint (.inl (le_refl _)))).1 $$ H
  icases H with ⟨H1, H2⟩
  isplitl [H1]; · iexists f; iexact H1
  iexists f; iexact H2
theorem rv_paste (c : Dev nD) (o n n' : ℕ) : iprop(rvAny c o n ∗ rvAny c (o + n) n') ⊢ (rvAny c o (n + n') : sProp 𝕄) := by
  unfold rvAny rvPts
  iintro ⟨⟨%f, H1⟩, ⟨%g, H2⟩⟩
  rw [← rows_union]
  iexists _
  iapply (pointsTo_join (rows_disjoint (.inl (le_refl _))))
  isplitl [H1]; · iexact H1
  iexact H2

/-- The receive buffer is the five places of the halving steps. -/
theorem rv_slots (c : Dev nD) : (rvAny c 0 992 : sProp 𝕄) ⊢ bigSep Finset.univ fun k : Fin 5 => rvAny c (slot k) (half k) := by
  rw [five]
  iintro H
  ihave H := (rv_cut c 0 512 480) $$ H; icases H with ⟨H0, H⟩
  ihave H := (rv_cut c 512 256 224) $$ H; icases H with ⟨H1, H⟩
  ihave H := (rv_cut c 768 128 96) $$ H; icases H with ⟨H2, H⟩
  ihave H := (rv_cut c 896 64 32) $$ H; icases H with ⟨H3, H4⟩
  isplitl [H0]; · iexact H0
  isplitl [H1]; · iexact H1
  isplitl [H2]; · iexact H2
  isplitl [H3]; · iexact H3
  iexact H4
theorem rv_whole (c : Dev nD) : (bigSep Finset.univ fun k : Fin 5 => (rvAny c (slot k) (half k) : sProp 𝕄)) ⊢ rvAny c 0 992 := by
  rw [five]
  iintro ⟨H0, H1, H2, H3, H4⟩
  iapply (rv_paste c 0 512 480); isplitl [H0]; · iexact H0
  iapply (rv_paste c 512 256 224); isplitl [H1]; · iexact H1
  iapply (rv_paste c 768 128 96); isplitl [H2]; · iexact H2
  iapply (rv_paste c 896 64 32); isplitl [H3]; · iexact H3
  iexact H4

/-- The gather buffer is the device's own rows and the five halves it sends away. -/
theorem ag_cut (k : Fin 5) (c : Dev nD) (i j : Fin 6) (hi : k.castSucc = i) (hj : k.succ = j) :
    (agAny c (seg i c) (span i) : sProp 𝕄) ⊢ iprop(agAny c (seg j c) (span j) ∗ agAny c (away k c) (half k)) := by
  subst hi hj
  unfold agAny agPts
  iintro ⟨%f, H⟩
  rw [seg_split]
  ihave H := (pointsTo_union (seg_disjoint k c)).1 $$ H
  icases H with ⟨H1, H2⟩
  isplitl [H1]; · iexists f; iexact H1
  iexists f; iexact H2
theorem ag_pieces (c : Dev nD) : (agAny c 0 1024 : sProp 𝕄) ⊢ iprop(agAny c (seg 5 c) 32 ∗ bigSep Finset.univ fun k : Fin 5 => agAny c (away k c) (half k)) := by
  rw [five]
  have h0 : seg 0 c = 0 := seg_zero c
  iintro H
  ihave H := (show (agAny c 0 1024 : sProp 𝕄) ⊢ agAny c (seg 0 c) (span 0) from Entails.of_eq (by rw [h0]; rfl)) $$ H
  ihave H := (ag_cut 0 c 0 1 rfl rfl) $$ H; icases H with ⟨H, H0⟩
  ihave H := (ag_cut 1 c 1 2 rfl rfl) $$ H; icases H with ⟨H, H1⟩
  ihave H := (ag_cut 2 c 2 3 rfl rfl) $$ H; icases H with ⟨H, H2⟩
  ihave H := (ag_cut 3 c 3 4 rfl rfl) $$ H; icases H with ⟨H, H3⟩
  ihave H := (ag_cut 4 c 4 5 rfl rfl) $$ H; icases H with ⟨H, H4⟩
  isplitl [H]; · iexact H
  isplitl [H0]; · iexact H0
  isplitl [H1]; · iexact H1
  isplitl [H2]; · iexact H2
  isplitl [H3]; · iexact H3
  iexact H4

/-! ## What a device holds for the exchange, packed -/

/-- The device owes `O`. -/
def owing (c : Dev nD) (O : CellTallies nD τ sig Unit) : sProp 𝕄 := iprop(∃ W, owes (c : Thread nD τ) O W)

/-- The rights of one partner's signal. -/
def sigKit (K : GSem nD τ sig → ℕ) (k : Fin 5) (c : Dev nD) : sProp 𝕄 :=
  iprop(inv P K (barCell (peer k c)) ∗ reached ER (barCell (peer k c)) 0 ∗ dutyTok ER (barCell (peer k c)) 0 k
    ∗ reached ER (dmaCell (recvR k) c) 0 ∗ reached ER (dmaCell (recvA k) c) 0)
/-- The rights of everything a device does with one partner. -/
def kit (K : GSem nD τ sig → ℕ) (k : Fin 5) (c : Dev nD) : sProp 𝕄 := iprop(sigKit P K k c ∗ rsGhost P K k c ∗ agGhost P K k c)
/-- The rights of the wait. -/
def barKit (K : GSem nD τ sig → ℕ) (c : Dev nD) : sProp 𝕄 :=
  iprop(inv P K (barCell c) ∗ cred (tallyAt (barCell c) () 5) ∗ atPos ER (barCell c) 0 ∅ 0)
/-- The counters of one partner's four cells, back at zero. -/
def zeros (k : Fin 5) (c : Dev nD) : sProp 𝕄 :=
  iprop((semVal (dmaCell (sendR k) c) 0 ∗ semVal (dmaCell (recvR k) c) 0) ∗ (semVal (dmaCell (sendA k) c) 0 ∗ semVal (dmaCell (recvA k) c) 0))

/-- What a signal hands over, with the right to hand it over. -/
def sigArm (K : GSem nD τ sig → ℕ) (k : Fin 5) (c : Dev nD) : sProp 𝕄 :=
  iprop(sigKit P K k c ∗ rvAny c (slot k) (half k) ∗ agAny c (away k c) (half k))
/-- Everything a halving step takes beside the running state; the same for a doubling step. -/
def rsArm (K : GSem nD τ sig → ℕ) (k : Fin 5) (c : Dev nD) : sProp 𝕄 :=
  iprop(rsGhost P K k c ∗ levAts L lv ∗ reached ER (dmaCell (recvR k) (peer k c)) 0 ∗ rvAny (peer k c) (slot k) (half k))
def agArm (K : GSem nD τ sig → ℕ) (k : Fin 5) (c : Dev nD) : sProp 𝕄 :=
  iprop(agGhost P K k c ∗ levAts L lv ∗ reached ER (dmaCell (recvA k) (peer k c)) 0 ∗ agAny (peer k c) (seg k.succ c) (half k))
/-- The running state of the halving steps, before step `i`; of the doubling steps, when `i` of them are left. -/
def rsRun (i : Fin 6) (c : Dev nD) : sProp 𝕄 := iprop(accAt P i c ∗ stAny c ∗ owing c (dueR c (5 - i.val)))
def agRun (i : Fin 6) (c : Dev nD) : sProp 𝕄 := iprop(agPts c (rows 1024 (seg i c) (span i)) (total P) ∗ owing c (dueA c i.val))

/-- What partner `k` sent along arms the two steps with it. -/
theorem arm (K : GSem nD τ sig → ℕ) (k : Fin 5) (c : Dev nD) :
    iprop((rsGhost P K k c ∗ agGhost P K k c) ∗ levAts L lv ∗ barPay c k) ⊢ iprop(rsArm P K k c ∗ agArm P K k c) := by
  unfold barPay rsArm agArm rvAny agAny
  iintro ⟨⟨H1, H2⟩, #Hlev, H3, H4, #H5, #H6⟩
  isplitl [H1 H3]
  · isplitl [H1]; · iexact H1
    isplitr; · iexact Hlev
    isplitr; · iexact H5
    iexact H3
  isplitl [H2]; · iexact H2
  isplitr; · iexact Hlev
  isplitr; · iexact H6
  iexact H4

/-- A halving step's start and end, in terms of the running state. -/
theorem halve_pre (K : GSem nD τ sig → ℕ) (k : Fin 5) (c : Dev nD) (i : Fin 6) (hi : k.castSucc = i) :
    iprop(rsArm P K k c ∗ rsRun P i c) ⊢ rsPre P K k c := by
  subst hi
  unfold rsArm rsRun rsPre rvAny stAny owing
  rw [show 5 - (k.castSucc).val = 4 - k.val + 1 by have := k.isLt; rw [Fin.val_castSucc]; omega]
  iintro ⟨⟨H1, H2, H3, H4⟩, H5, H6, H7⟩
  isplitl [H1]; · iexact H1
  isplitl [H2]; · iexact H2
  isplitl [H3]; · iexact H3
  isplitl [H4]; · iexact H4
  isplitl [H5]; · iexact H5
  isplitl [H6]; · iexact H6
  iexact H7
theorem halve_post (k : Fin 5) (c : Dev nD) (j : Fin 6) (hj : k.succ = j) :
    rsPost P k c ⊢ iprop((semVal (dmaCell (sendR k) c) 0 ∗ semVal (dmaCell (recvR k) c) 0) ∗ rvAny c (slot k) (half k) ∗ rsRun P j c) := by
  subst hj
  unfold rsRun rsPost rvAny stAny owing
  rw [show 5 - (k.succ).val = 4 - k.val by have := k.isLt; rw [Fin.val_succ]; omega]

/-- A doubling step's. -/
theorem double_pre (K : GSem nD τ sig → ℕ) (k : Fin 5) (c : Dev nD) (i : Fin 6) (hi : k.succ = i) :
    iprop(agArm P K k c ∗ agRun P i c) ⊢ agPre P K k c := by
  subst hi
  unfold agArm agRun agPre agAny owing
  rw [Fin.val_succ]
  iintro ⟨⟨H1, H2, H3, H4⟩, H5, H6⟩
  isplitl [H1]; · iexact H1
  isplitl [H2]; · iexact H2
  isplitl [H3]; · iexact H3
  isplitl [H4]; · iexact H4
  isplitl [H5]; · iexact H5
  iexact H6
theorem double_post (k : Fin 5) (c : Dev nD) (j : Fin 6) (hj : k.castSucc = j) :
    agPost P k c ⊢ iprop((semVal (dmaCell (sendA k) c) 0 ∗ semVal (dmaCell (recvA k) c) 0) ∗ agRun P j c) := by
  subst hj
  unfold agRun agPost owing
  rw [Fin.val_castSucc]

/-- A signal, on what is packed. -/
theorem signal (K : GSem nD τ sig → ℕ) (k : Fin 5) (c : Dev nD) (n m : ℕ) (hm : 4 - k.val = m) (hn : n = m + 1)
    {d : Dev nD} (hd : d = peer k c)
    {α : Type} {κ : Prog (TpuEff nD τ sig (Elt F) Λ₀ .tc) α} {Q : α → sProp 𝕄} :
    iprop((sigArm P K k c ∗ owing c (dueB c n)) ∗ (owing c (dueB c m) -∗ WP c κ Q)) ⊢ WP c
      (.op (.semSignal (d, .tc) barS (1#32 : BitVec 32).toInt) fun _ => κ) Q := by
  subst hn hm
  unfold sigArm sigKit rvAny agAny owing
  iintro ⟨⟨⟨⟨#H1, #H2, H3, #H4, #H5⟩, H6, H7⟩, H8⟩, Hk⟩
  iapply (signal_step P K k c hd)
  isplitr [Hk]
  · unfold sigPre
    isplitr; · iexact H1
    isplitr; · iexact H2
    isplitl [H3]; · iexact H3
    isplitl [H6]; · iexact H6
    isplitl [H7]; · iexact H7
    isplitr; · iexact H4
    isplitr; · iexact H5
    iexact H8
  iexact Hk

end Cert.AllReduce

end
-- ==== Proof.Attention.lean ====
/-
A device's partial product, as the kernel computes it: for each batch, the heads of the device one after another, each
head's softmax-weighted values times the head's rows of the output weights added to what the heads before it gave.
-/
module

public import proofs.«01_k».proof.Proof.Rows
public import proofs.«01_k».proof.Proof.Gen.KernelIdeal.Points
public import Idealize.ShloMosaic.Lib.Writes
public import Idealize.ShloMosaic.Lib.Pipeline.Value

@[expose] public section

noncomputable section

namespace Cert.AllReduce

open Cert.KernelIdeal Cert.KernelIdeal.Gen
open Idealize.ShloMosaic Idealize.ShloMosaic.ValueIdx
open Idealize.ShloMosaic.TcCoe

variable {F : FTy → Type} [FloatOps F]

/-! ## The staged inputs -/

abbrev xM : Memref sig .tc .vmem S2x512x768 .bf16 := Memref.whole cc0_stg0_0
abbrev wqM : Memref sig .tc .vmem S768x512 .bf16 := Memref.whole cc0_stg1_0
abbrev kM : Memref sig .tc .vmem S2x512x8x64 .bf16 := Memref.whole cc0_stg2_0
abbrev vM : Memref sig .tc .vmem S2x512x8x64 .bf16 := Memref.whole cc0_stg3_0
abbrev woM : Memref sig .tc .vmem S512x768 .bf16 := Memref.whole cc0_stg4_0
abbrev outM : Memref sig .tc .vmem (Sh 1024) .f32 := Memref.whole cc0_stg5_0

theorem inb_x (b : Fin 2) : ∀ a, (![b.val, 0, 0] : Fin 3 → ℕ) a + S1x512x768.size a ≤ S2x512x768.size a := by revert b; decide
theorem inb_wq (h : Fin 8) : ∀ a, (![0, 64 * h.val] : Fin 2 → ℕ) a + S768x64.size a ≤ S768x512.size a := by revert h; decide
theorem inb_kv (b : Fin 2) (h : Fin 8) : ∀ a, (![b.val, 0, h.val, 0] : Fin 4 → ℕ) a + S1x512x1x64.size a ≤ S2x512x8x64.size a := by revert b h; decide
theorem inb_wo (h : Fin 8) : ∀ a, (![64 * h.val, 0] : Fin 2 → ℕ) a + S64x768.size a ≤ S512x768.size a := by revert h; decide

/-- Batch `b` of the activations. -/
def xAt (X : FVec F S2x512x768 .bf16) (b : Fin 2) : FVec F S1x512x768 .bf16 :=
  View.readAt (Elt F) xM.view (Rect.unit (s := S2x512x768) ![b.val, 0, 0] S1x512x768.size (inb_x b)).toLoadRect X
/-- Head `h`'s columns of the query weights. -/
def wqAt (Wq : FVec F S768x512 .bf16) (h : Fin 8) : FVec F S768x64 .bf16 :=
  View.readAt (Elt F) wqM.view (Rect.unit (s := S768x512) ![0, 64 * h.val] S768x64.size (inb_wq h)).toLoadRect Wq
/-- Batch `b`, head `h` of the keys. -/
def kAt (Kb : FVec F S2x512x8x64 .bf16) (b : Fin 2) (h : Fin 8) : FVec F S1x512x1x64 .bf16 :=
  View.readAt (Elt F) kM.view (Rect.unit (s := S2x512x8x64) ![b.val, 0, h.val, 0] S1x512x1x64.size (inb_kv b h)).toLoadRect Kb
/-- Batch `b`, head `h` of the values. -/
def vAt (Vb : FVec F S2x512x8x64 .bf16) (b : Fin 2) (h : Fin 8) : FVec F S1x512x1x64 .bf16 :=
  View.readAt (Elt F) vM.view (Rect.unit (s := S2x512x8x64) ![b.val, 0, h.val, 0] S1x512x1x64.size (inb_kv b h)).toLoadRect Vb
/-- Head `h`'s rows of the output weights. -/
def woAt (Wo : FVec F S512x768 .bf16) (h : Fin 8) : FVec F S64x768 .bf16 :=
  View.readAt (Elt F) woM.view (Rect.unit (s := S512x768) ![64 * h.val, 0] S64x768.size (inb_wo h)).toLoadRect Wo

/-! ## One head -/

/-- The scaled, rounded queries. -/
def qryOf (x : FVec F S1x512x768 .bf16) (wq : FVec F S768x64 .bf16) : FVec F S512x64 .bf16 :=
  truncf .bf16 (mulf (matmul dot_S512x768_S768x64_S512x64_1_0_0_1_n_n none (shapeCast S512x768 x shapeCasts_S1x512x768_S512x768)
    (shapeCast S768x64 wq shapeCasts_S768x64_S768x64) (constant S512x64 .f32 0x00000000#32)) (broadcast S512x64 (Scalar.ofBits .f32 0x3E000000#32))) bitsLt_bf16_f32
/-- The scores, those outside the window replaced. -/
def scoreOf (q : FVec F S512x64 .bf16) (k : FVec F S1x512x1x64 .bf16) : FVec F S512x512 .f32 :=
  select k0_pay2 (matmul dot_S512x64_S512x64_S512x512_1_1_0_0_n_n none q (shapeCast S512x64 k shapeCasts_S1x512x1x64_S512x64) (constant S512x512 .f32 0x00000000#32))
    (broadcast S512x512 (Scalar.ofBits .f32 0xCE6E6B28#32))
/-- The exponentials of the scores less their row's maximum. -/
def expOf (s : FVec F S512x512 .f32) : FVec F S512x512 .f32 :=
  exp (subf s (broadcastTo S512x512 (shapeCast S512x1 (multiReduction .maximumf [1] S512 s 0xFF800000#32 reduces_S512x512_S512 (.inl rfl) rfl)
    shapeCasts_S512_S512x1) broadcasts_S512x1_S512x512))
/-- Each row divided by its sum. -/
def probOf (e : FVec F S512x512 .f32) : FVec F S512x512 .f32 :=
  divf e (broadcastTo S512x512 (shapeCast S512x1 (multiReduction .add [1] S512 e 0x00000000#32 reduces_S512x512_S512 (.inl rfl) rfl)
    shapeCasts_S512_S512x1) broadcasts_S512x1_S512x512)
/-- The weighted values times the head's rows of the output weights. -/
def headOf (p : FVec F S512x512 .f32) (v : FVec F S1x512x1x64 .bf16) (wo : FVec F S64x768 .bf16) : FVec F S512x768 .f32 :=
  matmul dot_S512x64_S64x768_S512x768_1_0_0_1_n_n none
    (truncf .bf16 (matmul dot_S512x512_S512x64_S512x64_1_0_0_1_n_n none (truncf .bf16 p bitsLt_bf16_f32)
      (shapeCast S512x64 v shapeCasts_S1x512x1x64_S512x64) (constant S512x64 .f32 0x00000000#32)) bitsLt_bf16_f32)
    (shapeCast S64x768 wo shapeCasts_S64x768_S64x768) (constant S512x768 .f32 0x00000000#32)

variable (X : FVec F S2x512x768 .bf16) (Wq : FVec F S768x512 .bf16) (Kb Vb : FVec F S2x512x8x64 .bf16) (Wo : FVec F S512x768 .bf16)

/-- What head `h` gives for batch `b`. -/
def headVal (b : Fin 2) (h : Fin 8) : FVec F S512x768 .f32 :=
  headOf (probOf (expOf (scoreOf (qryOf (xAt X b) (wqAt Wq h)) (kAt Kb b h)))) (vAt Vb b h) (woAt Wo h)

/-- The first `n` heads added up, from zero. -/
def headSum (b : Fin 2) : ℕ → FVec F S512x768 .f32
  | 0 => broadcast S512x768 (Scalar.ofBits .f32 0x00000000#32)
  | n + 1 => addf (headSum b n) (headVal X Wq Kb Vb Wo b (Fin.ofNat 8 n))

/-- A device's partial product: rows 0–511 are batch 0, rows 512–1023 batch 1. -/
def partVal : FVec F (Sh 1024) .f32 := fun i =>
  headSum X Wq Kb Vb Wo (if (i 0).val < 512 then 0 else 1) 8 (ix2 ⟨(i 0).val % 512, Nat.mod_lt _ (by decide)⟩ (i 1))

/-- Storing one 512-row block per half fills a 1024-row buffer. -/
theorem halves (f : FVec F (Sh 1024) .f32) (s : Fin 2 → FVec F S512x768 .f32) :
    (View.whole cc0_scratch0).writes (Elt F) f [⟨Rect.unit (s := Sh 1024) ![512, 0] S512x768.size inb_S1024x768_S512x768_512_0, s 1⟩,
      ⟨Rect.unit (s := Sh 1024) ![0, 0] S512x768.size inb_S1024x768_S512x768_0_0, s 0⟩]
      = fun i => s (if (i 0).val < 512 then 0 else 1) (ix2 ⟨(i 0).val % 512, Nat.mod_lt _ (by decide)⟩ (i 1)) := by
  funext i
  have key := View.read_writes_apply_of_pieces (Val := Elt F) (s := Sh 1024) (e := .f32) (View.whole cc0_scratch0) f
    (fun i => s (if (i 0).val < 512 then 0 else 1) (ix2 ⟨(i 0).val % 512, Nat.mod_lt _ (by decide)⟩ (i 1)))
    [⟨Rect.unit (s := Sh 1024) ![512, 0] S512x768.size inb_S1024x768_S512x768_512_0, s 1⟩,
      ⟨Rect.unit (s := Sh 1024) ![0, 0] S512x768.size inb_S1024x768_S512x768_0_0, s 0⟩] ?_ i ?_
  · rw [View.read_whole] at key; exact key
  · intro p hp x
    simp only [List.mem_cons, List.not_mem_nil, or_false] at hp
    rcases hp with rfl | rfl
    · have he := unit_emb_rows (R := 1024) (n := 512) (o := 512) rfl inb_S1024x768_S512x768_512_0 x
      have hx : (x 0).val < 512 := (x 0).isLt
      dsimp only
      rw [if_neg (by rw [he.1]; omega)]
      refine congrArg (s 1) (funext fun a => ?_)
      match a with
      | 0 => exact Fin.ext (by show (x 0).val = _ % 512; rw [he.1]; omega)
      | 1 => exact Fin.ext he.2.symm
    · have he := unit_emb_rows (R := 1024) (n := 512) (o := 0) rfl inb_S1024x768_S512x768_0_0 x
      have hx : (x 0).val < 512 := (x 0).isLt
      dsimp only
      rw [if_pos (by rw [he.1]; omega)]
      refine congrArg (s 0) (funext fun a => ?_)
      match a with
      | 0 => exact Fin.ext (by show (x 0).val = _ % 512; rw [he.1]; omega)
      | 1 => exact Fin.ext he.2.symm
  · have hi : (i 0).val < 1024 := (i 0).isLt
    by_cases h : (i 0).val < 512
    · refine ⟨_, List.mem_cons_of_mem _ (List.mem_cons_self ..), ?_⟩
      show i ∈ (Rect.unit (s := Sh 1024) ![0, 0] ![512, 768] inb_S1024x768_S512x768_0_0).set
      rw [unit_set_rows rfl, mem_rows]; omega
    · refine ⟨_, List.mem_cons_self .., ?_⟩
      show i ∈ (Rect.unit (s := Sh 1024) ![512, 0] ![512, 768] inb_S1024x768_S512x768_512_0).set
      rw [unit_set_rows rfl, mem_rows]; omega

/-- The accumulator after both batches are stored. -/
theorem written (f : FVec F (Sh 1024) .f32) (g0 g1 : FVec F S512x768 .f32)
    (h0 : g0 = shapeCast S512x768 (headSum X Wq Kb Vb Wo 0 8) shapeCasts_S512x768_S512x768)
    (h1 : g1 = shapeCast S512x768 (headSum X Wq Kb Vb Wo 1 8) shapeCasts_S512x768_S512x768) :
    (View.whole cc0_scratch0).writes (Elt F) f [⟨Rect.unit (s := Sh 1024) ![512, 0] S512x768.size inb_S1024x768_S512x768_512_0, g1⟩,
      ⟨Rect.unit (s := Sh 1024) ![0, 0] S512x768.size inb_S1024x768_S512x768_0_0, g0⟩] = partVal X Wq Kb Vb Wo := by
  have e0 := h0.trans (shapeCast_self _ _)
  have e1 := h1.trans (shapeCast_self _ _)
  rw [e0, e1]
  exact halves f (fun b => headSum X Wq Kb Vb Wo b 8)

end Cert.AllReduce

end
-- ==== Proof.Body.lean ====
/-
The kernel's body on one device: the attention leaves the partial product in the accumulator; then five signals, the wait,
five halving steps, five doubling steps; the result is the rounded total, widened.
-/
module

public import proofs.«01_k».proof.Proof.Packs
public import proofs.«01_k».proof.Proof.Attention

@[expose] public section

noncomputable section

namespace Cert.AllReduce

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Parts F)

/-! ## Around the steps -/

/-- The result: the rounded total, widened. -/
def result : FVec F (Sh 1024) .f32 := fun i => wid (total P i)

theorem whole_stored (f : FVec F (Sh 1024) .f32) :
    (View.whole cc0_stg5_0).writes (Elt F) f [⟨Rect.unit (s := Sh 1024) ![0, 0] S1024x768.size inb_S1024x768_S1024x768_0_0, k0_pay1 (total P)⟩] = result P := by
  funext i
  have key := View.read_writes_apply_of_pieces (Val := Elt F) (s := Sh 1024) (e := .f32) (View.whole cc0_stg5_0) f (result P)
    [⟨Rect.unit (s := Sh 1024) ![0, 0] S1024x768.size inb_S1024x768_S1024x768_0_0, k0_pay1 (total P)⟩] ?_ i ?_
  · rw [View.read_whole] at key; exact key
  · intro p hp x
    simp only [List.mem_cons, List.not_mem_nil, or_false] at hp
    subst hp
    have he := unit_emb_rows (R := 1024) (n := 1024) (o := 0) rfl inb_S1024x768_S1024x768_0_0 x
    refine congrArg (fun i => wid (total P i)) (funext fun a => ?_)
    match a with
    | 0 => exact Fin.ext (by show (x 0).val = _; rw [he.1]; omega)
    | 1 => exact Fin.ext he.2.symm
  · refine ⟨_, List.mem_cons_self .., ?_⟩
    show i ∈ (Rect.unit (s := Sh 1024) ![0, 0] ![1024, 768] inb_S1024x768_S1024x768_0_0).set
    rw [unit_set_rows rfl, rows_all]; exact Finset.mem_univ _

theorem whole_read (g : FVec F (Sh 1024) .bf16) :
    View.readAt (Elt F) agM.view (Rect.unit (s := Sh 1024) ![0, 0] S1024x768.size inb_S1024x768_S1024x768_0_0).toLoadRect g = g := by
  funext x
  have he := unit_emb_rows (R := 1024) (n := 1024) (o := 0) rfl inb_S1024x768_S1024x768_0_0 x
  show g ((Rect.unit (s := Sh 1024) ![0, 0] ![1024, 768] inb_S1024x768_S1024x768_0_0).emb x) = g x
  refine congrArg g (funext fun a => ?_)
  match a with
  | 0 => exact Fin.ext (by rw [he.1]; show 0 + (x 0).val = (x 0).val; omega)
  | 1 => exact Fin.ext he.2

/-- Storing the whole result. -/
theorem stored (c : Dev nD) (f : FVec F (Sh 1024) .f32) (g : FVec F (Sh 1024) .bf16) (R : sProp 𝕄) :
    iprop((outM.view.loc (c : Thread nD τ) ↦{fullShare} (outM.view.writes (Elt F) f
        [⟨Rect.unit (s := Sh 1024) ![0, 0] S1024x768.size inb_S1024x768_S1024x768_0_0, k0_pay1 g⟩]))
      ∗ ⌜g = total P⌝ ∗ ((outM.view.loc (c : Thread nD τ) ↦{fullShare} result P) -∗ R)) ⊢ R := by
  iintro ⟨HA, %hg, Hk⟩
  subst hg
  iapply Hk
  iapply (Entails.of_eq (congrArg (fun g => (outM.view.loc (c : Thread nD τ) ↦{fullShare} g : sProp 𝕄)) (whole_stored P f)))
  iexact HA

/-- The accumulator after the attention. -/
theorem attended (c : Dev nD) (X : FVec F S2x512x768 .bf16) (Wq : FVec F S768x512 .bf16) (Kb Vb : FVec F S2x512x8x64 .bf16) (Wo : FVec F S512x768 .bf16)
    (f : FVec F (Sh 1024) .f32) (g0 g1 : FVec F S512x768 .f32) (R : sProp 𝕄) :
    iprop((accM.view.loc (c : Thread nD τ) ↦{fullShare} (accM.view.writes (Elt F) f
        [⟨Rect.unit (s := Sh 1024) ![512, 0] S512x768.size inb_S1024x768_S512x768_512_0, g1⟩,
         ⟨Rect.unit (s := Sh 1024) ![0, 0] S512x768.size inb_S1024x768_S512x768_0_0, g0⟩]))
      ∗ ⌜g0 = shapeCast S512x768 (headSum X Wq Kb Vb Wo 0 8) shapeCasts_S512x768_S512x768⌝
      ∗ ⌜g1 = shapeCast S512x768 (headSum X Wq Kb Vb Wo 1 8) shapeCasts_S512x768_S512x768⌝
      ∗ (accPts c (partVal X Wq Kb Vb Wo) -∗ R)) ⊢ R := by
  iintro ⟨HA, %h0, %h1, Hk⟩
  iapply Hk
  unfold accPts
  iapply (Entails.of_eq (congrArg (fun g => (accM.view.loc (c : Thread nD τ) ↦{fullShare} g : sProp 𝕄)) (written X Wq Kb Vb Wo f g0 g1 h0 h1)))
  iexact HA

/-- What the body starts from: the rights, the five staged inputs, the buffers at contents not chosen, and all that is owed. -/
def bodyPre (K : GSem nD τ sig → ℕ) (c : Dev nD) (X : FVec F S2x512x768 .bf16) (Wq : FVec F S768x512 .bf16) (Kb Vb : FVec F S2x512x8x64 .bf16) (Wo : FVec F S512x768 .bf16) : sProp 𝕄 :=
  iprop((bigSep Finset.univ fun k => kit P K k c) ∗ barKit P K c ∗ levAts L lv ∗ owing c (O₀ c) ∗ (∃ f, accPts c f) ∗ stAny c ∗ rvAny c 0 992 ∗ agAny c 0 1024
    ∗ (∃ f : FVec F (Sh 1024) .f32, outM.view.loc (c : Thread nD τ) ↦{fullShare} f)
    ∗ (xM.view.loc (c : Thread nD τ) ↦{fullShare} X) ∗ (wqM.view.loc (c : Thread nD τ) ↦{fullShare} Wq) ∗ (kM.view.loc (c : Thread nD τ) ↦{fullShare} Kb)
    ∗ (vM.view.loc (c : Thread nD τ) ↦{fullShare} Vb) ∗ (woM.view.loc (c : Thread nD τ) ↦{fullShare} Wo))

/-- What it leaves: every counter at zero, nothing owed, the result in its place. -/
def bodyPost (c : Dev nD) (X : FVec F S2x512x768 .bf16) (Wq : FVec F S768x512 .bf16) (Kb Vb : FVec F S2x512x8x64 .bf16) (Wo : FVec F S512x768 .bf16) : sProp 𝕄 :=
  iprop(semVal (barCell c) 0 ∗ (bigSep Finset.univ fun k => zeros k c) ∗ owing c 0 ∗ (∃ f, accPts c f) ∗ stAny c ∗ rvAny c 0 992 ∗ agAny c 0 1024
    ∗ (outM.view.loc (c : Thread nD τ) ↦{fullShare} result P)
    ∗ (xM.view.loc (c : Thread nD τ) ↦{fullShare} X) ∗ (wqM.view.loc (c : Thread nD τ) ↦{fullShare} Wq) ∗ (kM.view.loc (c : Thread nD τ) ↦{fullShare} Kb)
    ∗ (vM.view.loc (c : Thread nD τ) ↦{fullShare} Vb) ∗ (woM.view.loc (c : Thread nD τ) ↦{fullShare} Wo))

/-- What the stores of the steps put down: rounded rows, and rows with the partner's added. -/
theorem rounds {s : Shape} (h : s.ShapeCasts s) (v : FVec F s .f32) : shapeCast s (truncf .bf16 v bitsLt_bf16_f32) h = fun i => rnd (v i) := shapeCast_self _ _
theorem adds {s : Shape} (h : s.ShapeCasts s) (v : FVec F s .f32) (w : FVec F s .bf16) :
    shapeCast s (addf v (extf .f32 w bitsLt_bf16_f32)) h = fun i => FloatOps.addf (v i) (wid (w i)) := shapeCast_self _ _

/-- What each device holds beyond the barrier. -/
theorem arms (K : GSem nD τ sig → ℕ) (c : Dev nD) :
    iprop((bigSep Finset.univ fun k => iprop(rsGhost P K k c ∗ agGhost P K k c)) ∗ levAts L lv ∗ bigSep Finset.univ (fun k => (barPay c k : sProp 𝕄)))
      ⊢ bigSep Finset.univ fun k => iprop(rsArm P K k c ∗ agArm P K k c) := by
  rw [five, five, five]
  iintro ⟨⟨G0, G1, G2, G3, G4⟩, #Hlev, B0, B1, B2, B3, B4⟩
  ihave A0 := (arm P K 0 c) $$ [G0 B0]
  · isplitl [G0]; · iexact G0
    isplitr; · iexact Hlev
    iexact B0
  ihave A1 := (arm P K 1 c) $$ [G1 B1]
  · isplitl [G1]; · iexact G1
    isplitr; · iexact Hlev
    iexact B1
  ihave A2 := (arm P K 2 c) $$ [G2 B2]
  · isplitl [G2]; · iexact G2
    isplitr; · iexact Hlev
    iexact B2
  ihave A3 := (arm P K 3 c) $$ [G3 B3]
  · isplitl [G3]; · iexact G3
    isplitr; · iexact Hlev
    iexact B3
  ihave A4 := (arm P K 4 c) $$ [G4 B4]
  · isplitl [G4]; · iexact G4
    isplitr; · iexact Hlev
    iexact B4
  isplitl [A0]; · iexact A0
  isplitl [A1]; · iexact A1
  isplitl [A2]; · iexact A2
  isplitl [A3]; · iexact A3
  iexact A4

/-- What each device holds before its signals. -/
theorem sigArms (K : GSem nD τ sig → ℕ) (c : Dev nD) :
    iprop((bigSep Finset.univ fun k => kit P K k c) ∗ rvAny c 0 992 ∗ agAny c 0 1024)
      ⊢ iprop((bigSep Finset.univ fun k => sigArm P K k c) ∗ (bigSep Finset.univ fun k => iprop(rsGhost P K k c ∗ agGhost P K k c)) ∗ agAny c (seg 5 c) 32) := by
  unfold kit sigArm
  iintro ⟨HK, HV, HG⟩
  ihave HV := (rv_slots c) $$ HV
  ihave HG := (ag_pieces c) $$ HG
  icases HG with ⟨HG, HG'⟩
  ihave HK := (Entails.of_eq (bigSep_sep' _ _ _)) $$ HK
  icases HK with ⟨HK, HR⟩
  isplitl [HK HV HG']
  · iapply (Entails.of_eq (bigSep_sep' _ _ _).symm)
    isplitl [HK]; · iexact HK
    iapply (Entails.of_eq (bigSep_sep' _ _ _).symm)
    isplitl [HV]; · iexact HV
    iexact HG'
  isplitl [HR]; · iexact HR
  iexact HG

set_option maxHeartbeats 4000000 in
/-- THE BODY of device `c`, whose partial product is `P c`. -/
theorem body_run (K : GSem nD τ sig → ℕ) (c : Dev nD) (X : FVec F S2x512x768 .bf16) (Wq : FVec F S768x512 .bf16) (Kb Vb : FVec F S2x512x8x64 .bf16)
    (Wo : FVec F S512x768 .bf16) (hP : P c = partVal X Wq Kb Vb Wo) (Q : PUnit → sProp 𝕄) :
    iprop(bodyPre P K c X Wq Kb Vb Wo ∗ (bodyPost P c X Wq Kb Vb Wo -∗ Q ⟨⟩))
      ⊢ wp frame (wpE (defs₀ (F := F)) 𝒱₀ (c : Thread nD τ) none) Set.univ (bodyAt0 (F := F) t0_0) Q := by
  show _ ⊢ wp _ _ _ (cc0_body (F := F) xM _ wqM _ kM _ vM _ woM _ outM _ accM _ stM _ rvM _ agM _ cc0_scratch4 cc0_scratch5) Q
  rw [cc0_body_eq_skeleton]; unfold cc0_body_skel bodyPre
  iintro ⟨⟨HK, HB, #Hlev, HO, ⟨%f, HA⟩, HST, HRV, HAG, ⟨%fo, HOut⟩, HX, HW, HKb, HV, HWo⟩, Hk⟩
  unfold accPts
  sl_exec
  iapply (attended c X Wq Kb Vb Wo f _ _ _)
  isplitl [HA]; · iexact HA
  isplitr; · ipureintro; rfl
  isplitr; · ipureintro; rfl
  iintro HA
  simp only [← wp_bind, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton,
    k0_part18_skel, k0_part19_skel, k0_part20_skel, k0_part21_skel, k0_part22_skel, k0_part23_skel, k0_part24_skel, k0_part25_skel, k0_part26_skel, k0_part27_skel,
    semSignalWord, semWaitWord, Prog.lift, Prog.bind_op, Prog.bind_ret, Prog.pure_eq_ret]
  ihave HS := (sigArms P K c) $$ [HK HRV HAG]
  · isplitl [HK]; · iexact HK
    isplitl [HRV]; · iexact HRV
    iexact HAG
  icases HS with ⟨HS, HG, HAG⟩
  ihave HS := (Entails.of_eq (five _)) $$ HS
  icases HS with ⟨S0, S1, S2, S3, S4⟩
  iapply (signal P K 0 c 5 4 rfl rfl (dev1_eq c)); isplitl [S0 HO]
  · isplitl [S0]; · iexact S0
    iexact HO
  iintro HO
  iapply (signal P K 1 c 4 3 rfl rfl (dev2_eq c)); isplitl [S1 HO]
  · isplitl [S1]; · iexact S1
    iexact HO
  iintro HO
  iapply (signal P K 2 c 3 2 rfl rfl (dev3_eq c)); isplitl [S2 HO]
  · isplitl [S2]; · iexact S2
    iexact HO
  iintro HO
  iapply (signal P K 3 c 2 1 rfl rfl (dev4_eq c)); isplitl [S3 HO]
  · isplitl [S3]; · iexact S3
    iexact HO
  iintro HO
  iapply (signal P K 4 c 1 0 rfl rfl (dev5_eq c)); isplitl [S4 HO]
  · isplitl [S4]; · iexact S4
    iexact HO
  iintro HO
  unfold barKit
  icases HB with ⟨HB1, HB2, HB3⟩
  iapply (barrier_step P K c); isplitl [HB1 HB2 HB3 HO]
  · isplitl [HB1]; · iexact HB1
    isplitr; · iexact Hlev
    isplitl [HB2]; · iexact HB2
    isplitl [HB3]; · iexact HB3
    iapply (show (owing c (dueB c 0) : sProp 𝕄) ⊢ iprop(∃ W, owes (c : Thread nD τ) (dueR c 5) W) from BI.Entails.refl _); iexact HO
  iintro ⟨HZ, HB, HO⟩
  ihave HG := (arms P K c) $$ [HG HB]
  · isplitl [HG]; · iexact HG
    isplitr; · iexact Hlev
    iexact HB
  ihave HG := (Entails.of_eq (five _)) $$ HG
  icases HG with ⟨⟨R0, A0⟩, ⟨R1, A1⟩, ⟨R2, A2⟩, ⟨R3, A3⟩, ⟨R4, A4⟩⟩
  ihave HR : (rsRun P 0 c) $$ [HA HST HO]
  · unfold rsRun accAt
    isplitl [HA]
    · iexists _; isplitr
      · ipureintro; intro i _; exact (congrFun hP i).symm
      · iexact HA
    isplitl [HST]; · iexact HST
    unfold owing; iexact HO
  iapply (rs_step P K 0 c (h := 512) rfl (off1_eq c) (off2_eq c) rfl rfl (dev6_eq c) rfl rfl (pay1 := k0_pay36) (rounds _) (pay2 := k0_pay37) (adds _)); isplitl [R0 HR]
  · iapply (halve_pre P K 0 c 0 rfl); isplitl [R0]; · iexact R0
    iexact HR
  iintro Hp; ihave Hp := (halve_post P 0 c 1 rfl) $$ Hp; icases Hp with ⟨Z0, V0, HR⟩
  iapply (rs_step P K 1 c (h := 256) rfl (off3_eq c) (off4_eq c) rfl rfl (dev7_eq c) rfl rfl (pay1 := k0_pay38) (rounds _) (pay2 := k0_pay39) (adds _)); isplitl [R1 HR]
  · iapply (halve_pre P K 1 c 1 rfl); isplitl [R1]; · iexact R1
    iexact HR
  iintro Hp; ihave Hp := (halve_post P 1 c 2 rfl) $$ Hp; icases Hp with ⟨Z1, V1, HR⟩
  iapply (rs_step P K 2 c (h := 128) rfl (off5_eq c) (off6_eq c) rfl rfl (dev8_eq c) rfl rfl (pay1 := k0_pay40) (rounds _) (pay2 := k0_pay41) (adds _)); isplitl [R2 HR]
  · iapply (halve_pre P K 2 c 2 rfl); isplitl [R2]; · iexact R2
    iexact HR
  iintro Hp; ihave Hp := (halve_post P 2 c 3 rfl) $$ Hp; icases Hp with ⟨Z2, V2, HR⟩
  iapply (rs_step P K 3 c (h := 64) rfl (off7_eq c) (off8_eq c) rfl rfl (dev9_eq c) rfl rfl (pay1 := k0_pay42) (rounds _) (pay2 := k0_pay43) (adds _)); isplitl [R3 HR]
  · iapply (halve_pre P K 3 c 3 rfl); isplitl [R3]; · iexact R3
    iexact HR
  iintro Hp; ihave Hp := (halve_post P 3 c 4 rfl) $$ Hp; icases Hp with ⟨Z3, V3, HR⟩
  iapply (rs_step P K 4 c (h := 32) rfl (off9_eq c) (off10_eq c) rfl rfl (dev10_eq c) rfl rfl (pay1 := k0_pay44) (rounds _) (pay2 := k0_pay45) (adds _)); isplitl [R4 HR]
  · iapply (halve_pre P K 4 c 4 rfl); isplitl [R4]; · iexact R4
    iexact HR
  iintro Hp; ihave Hp := (halve_post P 4 c 5 rfl) $$ Hp; icases Hp with ⟨Z4, V4, HR⟩
  unfold rsRun
  icases HR with ⟨HA, HST, HO⟩
  iapply (ag_start P c (off10_eq c) (pay := k0_pay46) (rounds _)); isplitl [HA HAG]
  · isplitl [HA]; · iexact HA
    unfold agAny; iexact HAG
  iintro ⟨HA, HAG⟩
  ihave HR : (agRun P 5 c) $$ [HAG HO]
  · unfold agRun
    isplitl [HAG]; · iexact HAG
    iexact HO
  iapply (ag_step P K 4 c (h := 32) rfl (off11_eq c) (dev11_eq c) rfl rfl); isplitl [A4 HR]
  · iapply (double_pre P K 4 c 5 rfl); isplitl [A4]; · iexact A4
    iexact HR
  iintro Hp; ihave Hp := (double_post P 4 c 4 rfl) $$ Hp; icases Hp with ⟨Y4, HR⟩
  iapply (ag_step P K 3 c (h := 64) rfl (off12_eq c) (dev12_eq c) rfl rfl); isplitl [A3 HR]
  · iapply (double_pre P K 3 c 4 rfl); isplitl [A3]; · iexact A3
    iexact HR
  iintro Hp; ihave Hp := (double_post P 3 c 3 rfl) $$ Hp; icases Hp with ⟨Y3, HR⟩
  iapply (ag_step P K 2 c (h := 128) rfl (off13_eq c) (dev13_eq c) rfl rfl); isplitl [A2 HR]
  · iapply (double_pre P K 2 c 3 rfl); isplitl [A2]; · iexact A2
    iexact HR
  iintro Hp; ihave Hp := (double_post P 2 c 2 rfl) $$ Hp; icases Hp with ⟨Y2, HR⟩
  iapply (ag_step P K 1 c (h := 256) rfl (off14_eq c) (dev14_eq c) rfl rfl); isplitl [A1 HR]
  · iapply (double_pre P K 1 c 2 rfl); isplitl [A1]; · iexact A1
    iexact HR
  iintro Hp; ihave Hp := (double_post P 1 c 1 rfl) $$ Hp; icases Hp with ⟨Y1, HR⟩
  iapply (ag_step P K 0 c (h := 512) rfl (off15_eq c) (dev15_eq c) rfl rfl); isplitl [A0 HR]
  · iapply (double_pre P K 0 c 1 rfl); isplitl [A0]; · iexact A0
    iexact HR
  iintro Hp; ihave Hp := (double_post P 0 c 0 rfl) $$ Hp; icases Hp with ⟨Y0, HR⟩
  unfold agRun agPts
  icases HR with ⟨HAG, HO⟩
  ihave HAG := (Entails.of_eq (congrArg (fun S => (agM.view.loc (c : Thread nD τ) ↦[S]{fullShare} total P : sProp 𝕄)) (show rows 1024 (seg 0 c) (span 0) = Finset.univ from by
    rw [seg_zero]; exact rows_all 1024))) $$ HAG
  unfold WP
  ihave HOut := (show ((View.whole cc0_stg5_0).loc (c : Thread nD τ) ↦{fullShare} fo : sProp 𝕄) ⊢ (outM.view.loc (c : Thread nD τ) ↦{fullShare} fo) from BI.Entails.refl _) $$ HOut
  sl_exec
  iapply (stored P c fo _ _)
  isplitl [HOut]; · iexact HOut
  isplitr; · ipureintro; exact whole_read _
  iintro HOut
  iapply (Entails.of_eq (Idealize.SL.Sem.wp_ret (Fr := frame) (wpE := wpE (defs₀ (F := F)) 𝒱₀ (c : Thread nD τ) none) (E := Set.univ) (⟨⟩ : PUnit) Q).symm)
  imodintro
  iapply Hk
  unfold bodyPost
  isplitl [HZ]; · iexact HZ
  isplitl [Z0 Z1 Z2 Z3 Z4 Y0 Y1 Y2 Y3 Y4]
  · unfold zeros
    iapply (Entails.of_eq (five _).symm)
    isplitl [Z0 Y0]; · isplitl [Z0]; · iexact Z0
                       iexact Y0
    isplitl [Z1 Y1]; · isplitl [Z1]; · iexact Z1
                       iexact Y1
    isplitl [Z2 Y2]; · isplitl [Z2]; · iexact Z2
                       iexact Y2
    isplitl [Z3 Y3]; · isplitl [Z3]; · iexact Z3
                       iexact Y3
    isplitl [Z4]; · iexact Z4
    iexact Y4
  isplitl [HO]; · iexact HO
  isplitl [HA]; · unfold accPts; iexact HA
  isplitl [HST]; · iexact HST
  isplitl [V0 V1 V2 V3 V4]
  · iapply (rv_whole c)
    iapply (Entails.of_eq (five _).symm)
    isplitl [V0]; · iexact V0
    isplitl [V1]; · iexact V1
    isplitl [V2]; · iexact V2
    isplitl [V3]; · iexact V3
    iexact V4
  isplitl [HAG]
  · unfold agAny agPts
    iexists (total P)
    iapply (Entails.of_eq (congrArg (fun S => (agM.view.loc (c : Thread nD τ) ↦[S]{fullShare} total P : sProp 𝕄)) (rows_all 1024).symm))
    iexact HAG
  isplitl [HOut]; · iexact HOut
  isplitl [HX]; · iexact HX
  isplitl [HW]; · iexact HW
  isplitl [HKb]; · iexact HKb
  isplitl [HV]; · iexact HV
  iexact HWo

end Cert.AllReduce

end
-- ==== Proof.Region.lean ====
/-
The kernel's region on one device: what it holds when it starts and when it ends, and the body between.
-/
module

public import proofs.«01_k».proof.Proof.Body
public import proofs.«01_k».proof.Proof.Gen.KernelIdeal.Regions

@[expose] public section

noncomputable section

namespace Cert.AllReduce

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The rights, before and after the counters are handed in -/

variable (P : Parts F)

/-- The rights on one pair of cells with partner `k` before the region hands its counters in. -/
def half0 (K : GSem nD τ sig → ℕ) (s r : DmaSem sig) (k : Fin 5) (c : Dev nD) : sProp 𝕄 :=
  iprop(inv P K (dmaCell s c) ∗ inv P K (dmaCell r (peer k c)) ∗ inv P K (dmaCell r c) ∗ openTok ER (dmaCell s c) ∗ openTok ER (dmaCell r c)
    ∗ dutyTok ER (dmaCell s c) 0 0 ∗ dutyTok ER (dmaCell r (peer k c)) 0 0 ∗ cred (tallyAt (dmaCell r c) () (N k)))
/-- The same, after. -/
def half1 (K : GSem nD τ sig → ℕ) (s r : DmaSem sig) (k : Fin 5) (c : Dev nD) : sProp 𝕄 :=
  iprop(inv P K (dmaCell s c) ∗ inv P K (dmaCell r (peer k c)) ∗ inv P K (dmaCell r c)
    ∗ reached ER (dmaCell s c) 0 ∗ atPos ER (dmaCell s c) 0 ∅ 0 ∗ atPos ER (dmaCell r c) 0 ∅ 0
    ∗ dutyTok ER (dmaCell s c) 0 0 ∗ dutyTok ER (dmaCell r (peer k c)) 0 0 ∗ cred (tallyAt (dmaCell r c) () (N k)))

/-- The two counters, at zero, open the two cells. -/
theorem half_open (K : GSem nD τ sig → ℕ) (s r : DmaSem sig) (k : Fin 5) (c : Dev nD) :
    iprop(half0 P K s r k c ∗ (semVal (dmaCell s c) 0 ∗ semVal (dmaCell r c) 0)) ⊢ (|={Set.univ}=> iprop(half1 P K s r k c ∗ reached ER (dmaCell r c) 0) : sProp 𝕄) := by
  unfold half0 half1 inv
  iintro ⟨⟨#H1, #H2, #H3, H4, H5, H6, H7, H8⟩, V1, W2⟩
  imod (Rounds.cell_open ER (Rd P) (g := dmaCell s c) (Set.mem_univ (K (dmaCell s c)))) $$ [H4 V1] with ⟨A1, #R1⟩
  · isplitr; · iexact H1
    isplitl [H4] <;> iassumption
  imod (Rounds.cell_open ER (Rd P) (g := dmaCell r c) (Set.mem_univ (K (dmaCell r c)))) $$ [H5 W2] with ⟨A2, #R2⟩
  · isplitr; · iexact H3
    isplitl [H5] <;> iassumption
  imodintro
  isplitl [A1 A2 H6 H7 H8]
  · isplitr; · iexact H1
    isplitr; · iexact H2
    isplitr; · iexact H3
    isplitr; · iexact R1
    isplitl [A1]; · iexact A1
    isplitl [A2]; · iexact A2
    isplitl [H6]; · iexact H6
    isplitl [H7]; · iexact H7
    iexact H8
  iexact R2

/-- The rights of everything a device does with one partner, before. -/
def kit0 (K : GSem nD τ sig → ℕ) (k : Fin 5) (c : Dev nD) : sProp 𝕄 :=
  iprop((inv P K (barCell (peer k c)) ∗ reached ER (barCell (peer k c)) 0 ∗ dutyTok ER (barCell (peer k c)) 0 k)
    ∗ half0 P K (sendR k) (recvR k) k c ∗ half0 P K (sendA k) (recvA k) k c)

theorem kit_open (K : GSem nD τ sig → ℕ) (k : Fin 5) (c : Dev nD) :
    iprop(kit0 P K k c ∗ zeros k c) ⊢ (|={Set.univ}=> kit P K k c : sProp 𝕄) := by
  unfold kit0 zeros kit sigKit rsGhost agGhost
  iintro ⟨⟨⟨#H1, #H2, H3⟩, HR, HA⟩, VR, VA⟩
  imod (half_open P K (sendR k) (recvR k) k c) $$ [HR VR] with ⟨HR, #R⟩
  · isplitl [HR] <;> iassumption
  imod (half_open P K (sendA k) (recvA k) k c) $$ [HA VA] with ⟨HA, #A⟩
  · isplitl [HA] <;> iassumption
  imodintro
  isplitl [H3]
  · isplitr; · iexact H1
    isplitr; · iexact H2
    isplitl [H3]; · iexact H3
    isplitr; · iexact R
    iexact A
  unfold half1
  isplitl [HR]; · iexact HR
  iexact HA

/-- The kernel's own counters at zero, partner by partner. -/
theorem own_zeros (c : Dev nD) : (Pipeline.ownSems0 osem c : sProp 𝕄) = bigSep Finset.univ fun k => zeros k c := by
  unfold Pipeline.ownSems0
  rw [bigSep_univ_prod]
  refine bigSep_congr fun k _ => ?_
  rw [bigSep_univ_eq_bigSepL [0, 1, 2, 3] (by decide) (by decide)]
  unfold zeros
  show iprop(semVal (dmaCell (sendR k) c) 0 ∗ semVal (dmaCell (recvR k) c) 0 ∗ semVal (dmaCell (sendA k) c) 0 ∗ semVal (dmaCell (recvA k) c) 0) = _
  exact (BI.sep_assoc.antisymm BI.sep_assoc').symm

/-- What a device brings to the region, and what it has once the counters are handed in. -/
def Tk (c : Dev nD) : sProp 𝕄 := iprop(∃ K, (bigSep Finset.univ fun k => kit0 P K k c) ∗ barKit P K c)
def Xk (c : Dev nD) : sProp 𝕄 := iprop((∃ K, (bigSep Finset.univ fun k => kit P K k c) ∗ barKit P K c) ∗ levAts L lv)
def Yk (c : Dev nD) : sProp 𝕄 := semVal (barCell c) 0

theorem opens (c : Dev nD) : iprop(Tk P c ∗ Pipeline.ownSems0 osem c ∗ levAts L lv) ⊢ (|={Set.univ}=> Xk P c : sProp 𝕄) := by
  rw [own_zeros]
  unfold Tk Xk
  iintro ⟨⟨%K, HK, HB⟩, HZ, #Hlev⟩
  ihave H := (Entails.of_eq (bigSep_sep' _ _ _).symm) $$ [HK HZ]
  · isplitl [HK]; · iexact HK
    iexact HZ
  ihave H := (show (bigSep Finset.univ fun k => iprop(kit0 P K k c ∗ zeros k c)) ⊢ (bigSep Finset.univ fun k => iprop(|={Set.univ}=> kit P K k c) : sProp 𝕄) from bigSep_mono fun k _ => kit_open P K k c) $$ H
  imod (bigSep_fupd _ _) $$ H with H
  imodintro
  isplitl [H HB]
  · iexists K
    isplitl [H]; · iexact H
    iexact HB
  iexact Hlev

/-! ## The region's proof data -/

variable (m : (ℓ : Loc nD τ sig) → Buf (Elt F) ℓ)

/-- The five staged inputs of device `c`: two arguments, the two slices the host cut, and the last argument. -/
def inX (c : Dev nD) : FVec F S2x512x768 .bf16 := V1 m c (Proc.devRef .tc main_arg0)
def inWq (c : Dev nD) : FVec F S768x512 .bf16 := V1 m c (Proc.devRef .tc main_arg1)
def inK (c : Dev nD) : FVec F S2x512x8x64 .bf16 := V1 m c (Proc.devRef .tc main_v9)
def inV (c : Dev nD) : FVec F S2x512x8x64 .bf16 := V1 m c (Proc.devRef .tc main_v14)
def inWo (c : Dev nD) : FVec F S512x768 .bf16 := V1 m c (Proc.devRef .tc main_arg4)
/-- Every device's partial product. -/
def parts : Parts F := fun c => partVal (inX m c) (inWq m c) (inK m c) (inV m c) (inWo m c)

/-- A device's four scratch buffers, at contents not chosen. -/
def scratch (c : Dev nD) : sProp 𝕄 := iprop((∃ f, accPts c f) ∗ stAny c ∗ rvAny c 0 992 ∗ agAny c 0 1024)

theorem scratch_eq (c : Dev nD) : (Pipeline.scopedRest (Ix := Unit) (Name := ℕ) (U := UU) (Lvl := ℕ) (Val := Elt F) spec0 c : sProp 𝕄) = scratch c := by
  rw [scopedRest0_eq]
  unfold scratch stAny rvAny agAny accPts stPts rvPts agPts
  rw [rows_all, rows_all]
  rfl

def dat (c : Dev nD) : Pipeline.Dat τ (Elt F) Unit ℕ UU ℕ cfg0 c where
  A w := V1 m c (Proc.devRef .tc (Pipeline.arrRef spec0 w))
  after w _ := match w with
    | ⟨0, _⟩ => inX m c
    | ⟨1, _⟩ => inWq m c
    | ⟨2, _⟩ => inK m c
    | ⟨3, _⟩ => inV m c
    | ⟨4, _⟩ => inWo m c
    | ⟨5, _⟩ => result (parts m)
  Φ t := if t.val = 0 then iprop(scratch c ∗ (∃ r, prngReg c r) ∗ Xk (parts m) c)
    else iprop(scratch c ∗ (∃ r, prngReg c r) ∗ (bigSep Finset.univ fun k => zeros k c) ∗ Yk c)
  q _ := fullShare
  owed t := if t.val = 0 then O₀ c else 0

def pdats : (p : Fin 1) → (c : Dev nD) → Pipeline.Dat τ (Elt F) Unit ℕ UU ℕ (Pipeline.pin (pcfgs (F := F)) adm p) c
  | 0 => dat m

theorem Φ_first (c : Dev nD) : (dat m c).Φ t0_0.castSucc = iprop(scratch c ∗ (∃ r, prngReg c r) ∗ Xk (parts m) c) := rfl
theorem Φ_last (c : Dev nD) : (dat m c).Φ t0_0.succ = iprop(scratch c ∗ (∃ r, prngReg c r) ∗ (bigSep Finset.univ fun k => zeros k c) ∗ Yk c) := rfl

theorem owed_zero (c : Dev nD) : (pdats m 0 c).owed 0 = O₀ c := by
  show (if ((0 : Fin (cfg0.N + 1)).val = 0) then O₀ c else 0) = O₀ c; exact if_pos rfl
theorem owed_first (c : Dev nD) : (dat m c).owed t0_0.castSucc = O₀ c := by
  show (if (t0_0.castSucc : Fin (cfg0.N + 1)).val = 0 then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]

theorem owes_in (c : Dev nD) (t : Fin (cfg0.N + 1)) (O : CellTallies nD τ sig Unit) (h0 : (dat m c).owed t = O) :
    ((dat m c).owesAt () t : sProp 𝕄) ⊢ owing c O := by
  unfold Pipeline.Dat.owesAt Pipeline.owesWithin owing; rw [h0]
  iintro ⟨%W, -, HO⟩; iexists W; iexact HO
theorem owes_out (c : Dev nD) (t : Fin (cfg0.N + 1)) (O : CellTallies nD τ sig Unit) (h0 : (dat m c).owed t = O) :
    (owing c O : sProp 𝕄) ⊢ (dat m c).owesAt () t := by
  unfold Pipeline.Dat.owesAt Pipeline.owesWithin Pipeline.Dat.bound owing; rw [h0]
  iintro ⟨%W, HO⟩; iexists W; isplitr; · ipureintro; exact fun _ _ => Or.inl trivial
  iexact HO

/-- A window that is its whole array stages the array. -/
theorem blk0 (f : FVec F S2x512x768 .bf16) : ((cfg0.win 0).blk t0_0).view.read (Elt F) f = f := by
  funext i; exact congrArg f (funext fun a => Fin.ext (by show 0 * _ + 1 * (i a).val = _; omega))
theorem blk1 (f : FVec F S768x512 .bf16) : ((cfg0.win 1).blk t0_0).view.read (Elt F) f = f := by
  funext i; exact congrArg f (funext fun a => Fin.ext (by show 0 * _ + 1 * (i a).val = _; omega))
theorem blk2 (f : FVec F S2x512x8x64 .bf16) : ((cfg0.win 2).blk t0_0).view.read (Elt F) f = f := by
  funext i; exact congrArg f (funext fun a => Fin.ext (by show 0 * _ + 1 * (i a).val = _; omega))
theorem blk3 (f : FVec F S2x512x8x64 .bf16) : ((cfg0.win 3).blk t0_0).view.read (Elt F) f = f := by
  funext i; exact congrArg f (funext fun a => Fin.ext (by show 0 * _ + 1 * (i a).val = _; omega))
theorem blk4 (f : FVec F S512x768 .bf16) : ((cfg0.win 4).blk t0_0).view.read (Elt F) f = f := by
  funext i; exact congrArg f (funext fun a => Fin.ext (by show 0 * _ + 1 * (i a).val = _; omega))
theorem blk5 (f : FVec F (Sh 1024) .f32) : ((cfg0.win 5).blk t0_0).view.read (Elt F) f = f := by
  funext i; exact congrArg f (funext fun a => Fin.ext (by show 0 * _ + 1 * (i a).val = _; omega))

theorem before0 (c : Dev nD) (d) : (dat m c).before 0 t0_0 d = inX m c := by
  unfold Pipeline.Dat.before; rw [if_pos (fetch0_0 _)]; exact blk0 (inX m c)
theorem before1 (c : Dev nD) (d) : (dat m c).before 1 t0_0 d = inWq m c := by
  unfold Pipeline.Dat.before; rw [if_pos (fetch0_1 _)]; exact blk1 (inWq m c)
theorem before2 (c : Dev nD) (d) : (dat m c).before 2 t0_0 d = inK m c := by
  unfold Pipeline.Dat.before; rw [if_pos (fetch0_2 _)]; exact blk2 (inK m c)
theorem before3 (c : Dev nD) (d) : (dat m c).before 3 t0_0 d = inV m c := by
  unfold Pipeline.Dat.before; rw [if_pos (fetch0_3 _)]; exact blk3 (inV m c)
theorem before4 (c : Dev nD) (d) : (dat m c).before 4 t0_0 d = inWo m c := by
  unfold Pipeline.Dat.before; rw [if_pos (fetch0_4 _)]; exact blk4 (inWo m c)

/-- A whole staging buffer, owned. -/
theorem owned (c : Dev nD) (b : Ref sig .tc) (X : b.ty.Contents (Elt F)) :
    (owns (Ix := Unit) (Name := ℕ) (U := UU) (Lvl := ℕ) (c : Thread nD τ) (Memref.whole b) fullShare X : sProp 𝕄) = iprop((View.whole b).loc (c : Thread nD τ) ↦{fullShare} X) :=
  owns_whole _ _ _ _

/-- A whole staging buffer at a known value, owned. -/
theorem owned_of (c : Dev nD) (b : Ref sig .tc) {X Y : b.ty.Contents (Elt F)} (h : X = Y) :
    (owns (Ix := Unit) (Name := ℕ) (U := UU) (Lvl := ℕ) (c : Thread nD τ) (Memref.whole b) fullShare X : sProp 𝕄) ⊢ ((Memref.whole b).view.loc (c : Thread nD τ) ↦{fullShare} Y) := by
  subst h; exact Entails.of_eq (owns_whole _ _ _ _)
theorem owned_to (c : Dev nD) (b : Ref sig .tc) (X : b.ty.Contents (Elt F)) :
    ((Memref.whole b).view.loc (c : Thread nD τ) ↦{fullShare} X : sProp 𝕄) ⊢ owns (Ix := Unit) (Name := ℕ) (U := UU) (Lvl := ℕ) (c : Thread nD τ) (Memref.whole b) fullShare X :=
  Entails.of_eq (owns_whole _ _ _ _).symm

set_option maxHeartbeats 1000000 in
/-- The body, as the region calls it. -/
theorem body (c : Dev nD) : Pipeline.BodyObligation (dat m c) (defs₀ (F := F)) 𝒱₀ () Set.univ := fun t => by
  obtain rfl := fin_N0 t
  rw [bigSep_W0, bigSep_W0, Φ_first, Φ_last]
  unfold scratch Xk Yk
  iintro ⟨⟨⟨HA, HS, HR, HG⟩, Hp, ⟨⟨%K, HK, HB⟩, Hlev⟩⟩, HO, ⟨%d0, H0⟩, ⟨%d1, H1⟩, ⟨%d2, H2⟩, ⟨%d3, H3⟩, ⟨%d4, H4⟩, ⟨%d5, H5⟩⟩
  ihave H0 := (owned_of c cc0_stg0_0 (before0 m c d0)) $$ H0
  ihave H1 := (owned_of c cc0_stg1_0 (before1 m c d1)) $$ H1
  ihave H2 := (owned_of c cc0_stg2_0 (before2 m c d2)) $$ H2
  ihave H3 := (owned_of c cc0_stg3_0 (before3 m c d3)) $$ H3
  ihave H4 := (owned_of c cc0_stg4_0 (before4 m c d4)) $$ H4
  ihave H5 := (owned_of c cc0_stg5_0 rfl) $$ H5
  ihave HO := (owes_in m c t0_0.castSucc (O₀ c) (owed_first m c)) $$ HO
  iapply (body_run (parts m) K c (inX m c) (inWq m c) (inK m c) (inV m c) (inWo m c) rfl _)
  isplitl [HK HB Hlev HO HA HS HR HG H0 H1 H2 H3 H4 H5]
  · unfold bodyPre
    isplitl [HK]; · iexact HK
    isplitl [HB]; · iexact HB
    isplitl [Hlev]; · iexact Hlev
    isplitl [HO]; · iexact HO
    isplitl [HA]; · iexact HA
    isplitl [HS]; · iexact HS
    isplitl [HR]; · iexact HR
    isplitl [HG]; · iexact HG
    isplitl [H5]; · iexists _; iexact H5
    isplitl [H0]; · iexact H0
    isplitl [H1]; · iexact H1
    isplitl [H2]; · iexact H2
    isplitl [H3]; · iexact H3
    iexact H4
  unfold bodyPost
  iintro ⟨HY, HZ, HO, HA, HS, HR, HG, H5, H0, H1, H2, H3, H4⟩
  isplitl [HY HZ HA HS HR HG Hp]
  · isplitl [HA HS HR HG]
    · isplitl [HA]; · iexact HA
      isplitl [HS]; · iexact HS
      isplitl [HR]; · iexact HR
      iexact HG
    isplitl [Hp]; · iexact Hp
    isplitl [HZ]; · iexact HZ
    iexact HY
  isplitl [HO]; · iapply (owes_out m c t0_0.succ 0 (owed_last m c)); iexact HO
  isplitl [H0]; · iapply (owned_to c cc0_stg0_0 (inX m c)); iexact H0
  isplitl [H1]; · iapply (owned_to c cc0_stg1_0 (inWq m c)); iexact H1
  isplitl [H2]; · iapply (owned_to c cc0_stg2_0 (inK m c)); iexact H2
  isplitl [H3]; · iapply (owned_to c cc0_stg3_0 (inV m c)); iexact H3
  isplitl [H4]; · iapply (owned_to c cc0_stg4_0 (inWo m c)); iexact H4
  iapply (owned_to c cc0_stg5_0 (result (parts m))); iexact H5

/-! ## The region -/

/-- What the buffers hold when the region is left. -/
def W2 (c : Dev nD) : Valuation τ sig (Elt F) := Function.update (V1 m c) (Proc.devRef .tc main_v15) (result (parts m))

theorem W2_out (c : Dev nD) : W2 m c (Proc.devRef .tc main_v15) = result (parts m) := Function.update_self ..
theorem W2_ne (c : Dev nD) (r : DevRef τ sig) (h : r ≠ Proc.devRef .tc main_v15) : W2 m c r = V1 m c r := Function.update_of_ne h ..

theorem out_arr (c : Dev nD) : (pdats m 0 c).arrAt 5 (Pipeline.pin (pcfgs (F := F)) adm 0).N = result (parts m) := by
  show (dat m c).arrAt 5 cfg0.N = _
  rw [show cfg0.N = (t0_0 : Fin cfg0.N).val + 1 from rfl, (dat m c).arrAt_succ (5 : Fin 6) t0_0, if_pos (flush0_5 _)]
  exact (blk5 _).symm.trans (View.read_write_univ _ _)

/-- What each staged array holds when the region is left. -/
theorem leaves (c : Dev nD) (w : Fin 6) : (pdats m 0 c).arrAt w (Pipeline.pin (pcfgs (F := F)) adm 0).N = W2 m c (Proc.devRef .tc (Pipeline.arrRef spec0 w)) := by
  rcases (show w = 5 ∨ (w ≠ 5 ∧ (cfg0.win w).isOut = false) by revert w; decide) with rfl | ⟨h5, hw⟩
  · exact (out_arr m c).trans (W2_out m c).symm
  · exact ((dat m c).arrAt_in w hw _).trans (W2_ne m c _ (by revert w; decide)).symm

/-- The staging counters stand at level 0. -/
theorem staging_low (c : Dev nD) (w : Fin 6) (s : Fin (cfg0.win w).nbuf) : lv ((c : Thread nD τ), SemLoc.dma ((cfg0.win w).sem s)) () ≤ 0 := by
  have h : ∀ (w : Fin 6) (s : Fin (cfg0.win w).nbuf), ¬ 16 ≤ ((cfg0.win w).sem s).val := by decide
  exact (if_neg (h w s)).le

theorem kitP : Pipeline.PLaunchFacts (nD := nD) (τ := τ) (pcfgs (F := F)) 0 := launch0.toP

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · have a := above_dueB c 5 le_rfl g i h
    exact ⟨by rw [show L g = {()} from if_pos a.1]; exact Finset.mem_singleton_self _, a.2⟩
  · exact absurd h (Nat.lt_irrefl 0)

/-- The buffers no window of the region stages. -/
abbrev others : Finset (DevRef τ sig) := Pipeline.ucRefs τ sig \ Pipeline.arrRefs (τ := τ) spec0

theorem held_none (c : Dev nD) (W : Valuation τ sig (Elt F)) : (StableHlo.held (c : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r) ∗ StableHlo.held (c.tc : Thread nD τ) ∅ (V1 m c) ∗ Xk (parts m) c)
    ⊢ (pdats m 0 c).Φ 0 := by
  rw [show (pdats m 0 c).Φ 0 = iprop(scratch c ∗ (∃ r, prngReg c r) ∗ Xk (parts m) c) from rfl,
    show (Pipeline.scopedRest (Pipeline.pin (pcfgs (F := F)) adm 0).spec c : sProp 𝕄) = scratch c from scratch_eq c]
  iintro ⟨Hs, Hp, -, HX⟩
  isplitl [Hs]; · iexact Hs
  isplitl [Hp]; · iexact Hp
  iexact HX

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (W2 m c) ∗ Pipeline.ownSems0 osem c ∗ Yk c) := by
  rw [show (pdats m 0 c).Φ (Fin.last _) = iprop(scratch c ∗ (∃ r, prngReg c r) ∗ (bigSep Finset.univ fun k => zeros k c) ∗ Yk c) from rfl,
    show (Pipeline.scopedRest (Pipeline.pin (pcfgs (F := F)) adm 0).spec c : sProp 𝕄) = scratch c from scratch_eq c, own_zeros, held_none]
  iintro ⟨Hs, Hp, HZ, HY⟩
  isplitl [Hs]; · iexact Hs
  isplitl [Hp]; · iexact Hp
  isplitr; · iempintro
  isplitl [HZ]; · iexact HZ
  iexact HY

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) kitP rfl (fun c => (body m c).loose)
    (fun _ => 0) O₀ (fun c => (owed_zero m c).trans (zero_add _).symm) (owed_last m) (fun _ => rfl) (fun c w => (pdats m 0 c).share_full (fun _ => rfl) w)
    (V1 m) (W2 m) (fun c b hb => W2_ne m c b (by rintro rfl; exact absurd hb (by decide)))
    (Tk (parts m)) Yk (Xk (parts m)) Yk (opens (parts m)) (hin m) (hout m)
    (fun c => by iintro H; imodintro; iexact H)
    (fun _ => 0)
    ⟨fun c w s => by rw [L_tc]; exact Finset.mem_singleton_self _, fun c w s => staging_low c w s, fun c t g i h => cutD m c t g i h⟩
    (fun _ => iprop(emp))
    (fun c w => rfl) (leaves m)

end Cert.AllReduce

end
-- ==== Proof.Launch.lean ====
/-
The launch: the cells funded and dealt, and the run of the whole program.
-/
module

public import proofs.«01_k».proof.Proof.Region

@[expose] public section

noncomputable section

namespace Cert.AllReduce

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the tokens -/

theorem osem_inj : Function.Injective osem := by decide
theorem osem_ne_bar : ∀ p, osem p ≠ .reg barS := fun _ h => by cases h

def barEmb : Dev nD ↪ GSem nD τ sig := ⟨fun c => barCell c, fun _ _ h => congrArg (fun g : GSem nD τ sig => g.1.1) h⟩
def scEmb : Dev nD × (Fin 5 × Fin 4) ↪ GSem nD τ sig :=
  ⟨fun x => ((x.1 : Thread nD τ), osem x.2), fun _ _ h =>
    Prod.ext (congrArg (fun g : GSem nD τ sig => g.1.1) h) (osem_inj (congrArg Prod.snd h))⟩

/-- The barrier cells, funded with their counters; the DMA cells, funded before the region opens them. -/
abbrev barCells : Finset (GSem nD τ sig) := Finset.univ.map barEmb
abbrev scCells : Finset (GSem nD τ sig) := Finset.univ.map scEmb

/-- The duties a device's cells expect of one partner: one at each of the four DMA cells, one at the barrier. -/
abbrev duty (k j : Fin 5) : SemLoc sig × Fin 5 :=
  (![(.dma (sendR k), 0), (.dma (recvR k), 0), (.dma (sendA k), 0), (.dma (recvA k), 0), (.reg barS, k)] : Fin 5 → SemLoc sig × Fin 5) j
theorem duty_inj : Function.Injective (fun x : Fin 5 × Fin 5 => duty x.1 x.2) := by decide
def tokens : Finset (GSem nD τ sig × ℕ × Fin 5) :=
  Finset.univ.map ⟨fun x : Dev nD × (Fin 5 × Fin 5) => (((x.1 : Thread nD τ), (duty x.2.1 x.2.2).1), 0, (duty x.2.1 x.2.2).2), fun _ _ h =>
    Prod.ext (congrArg (fun t : GSem nD τ sig × ℕ × Fin 5 => t.1.1.1) h)
      (duty_inj (Prod.ext (congrArg (fun t : GSem nD τ sig × ℕ × Fin 5 => t.1.2) h) (congrArg (fun t : GSem nD τ sig × ℕ × Fin 5 => t.2.2) h)))⟩

theorem disjoint_cells : Disjoint (barCells : Finset (GSem nD τ sig)) scCells := by
  rw [Finset.disjoint_left]
  rintro g h₁ h₂
  obtain ⟨c, -, rfl⟩ := Finset.mem_map.mp h₁
  obtain ⟨x, -, h⟩ := Finset.mem_map.mp h₂
  exact osem_ne_bar x.2 (congrArg Prod.snd h)

theorem bar_mem (c : Dev nD) : barCell c ∈ (barCells ∪ scCells : Finset (GSem nD τ sig)) :=
  Finset.mem_union_left _ (Finset.mem_map_of_mem barEmb (Finset.mem_univ c))
theorem sc_mem (c : Dev nD) (k : Fin 5) (j : Fin 4) : ((c : Thread nD τ), osem (k, j)) ∈ (barCells ∪ scCells : Finset (GSem nD τ sig)) :=
  Finset.mem_union_right _ (Finset.mem_map_of_mem scEmb (Finset.mem_univ (c, (k, j))))

/-- The element the launch starts from: the staging cells' and the protocol's. -/
def u₀ : UU :=
  (initOf (Pipeline.cells (Pipeline.pin (pcfgs (F := F)) adm) cellOf_inj) (Pipeline.launchToks (Pipeline.pin (pcfgs (F := F)) adm) cellOf_inj),
    launchOf barCells scCells tokens)

/-- A resource as a family over the devices: all of it on device 0. -/
def parked (X : sProp 𝕄) (c : Dev nD) : sProp 𝕄 := if c = 0 then X else iprop(emp)
theorem bigSep_parked (X : sProp 𝕄) : bigSep Finset.univ (parked X) = X := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

def G : Dev nD → sProp 𝕄 := parked (BI.own (ER (launchOf barCells scCells tokens)))

variable (P : Parts F)

/-- What every device may consult: all the invariants, and that every barrier cell is open. -/
def records (κ : GSem nD τ sig → ℕ) : sProp 𝕄 :=
  iprop((bigSep (barCells ∪ scCells) fun g => cellInv ER (Rd P) (κ g) g) ∗ bigSep barCells fun g => reached ER g 0)

instance records_persistent (κ : GSem nD τ sig → ℕ) : BI.Persistent (records P κ) := by unfold records; infer_instance

theorem inv_at (κ : GSem nD τ sig → ℕ) {g : GSem nD τ sig} (hg : g ∈ (barCells ∪ scCells : Finset (GSem nD τ sig))) : records P κ ⊢ inv P κ g := by
  unfold records inv
  iintro ⟨H, -⟩
  iapply (show (bigSep (barCells ∪ scCells) fun g => (cellInv ER (Rd P) (κ g) g : sProp 𝕄)) ⊢ cellInv ER (Rd P) (κ g) g from bigSep_elim hg); iexact H
theorem reached_at (κ : GSem nD τ sig → ℕ) (c : Dev nD) : records P κ ⊢ reached ER (barCell c) 0 := by
  unfold records
  iintro ⟨-, H⟩
  iapply (show (bigSep barCells fun g => (reached ER g 0 : sProp 𝕄)) ⊢ reached ER (barCell c) 0 from bigSep_elim (Finset.mem_map_of_mem barEmb (Finset.mem_univ c))); iexact H

/-! ## What is dealt to each device, partner by partner -/

/-- The rights to open a device's four cells of one partner. -/
def openers (c : Dev nD) (k : Fin 5) : sProp 𝕄 :=
  iprop(openTok ER (dmaCell (sendR k) c) ∗ openTok ER (dmaCell (recvR k) c) ∗ openTok ER (dmaCell (sendA k) c) ∗ openTok ER (dmaCell (recvA k) c))
/-- The tokens of the duties due at a device's own cells; of those it pays at its own send cells and its partner's cells. -/
def due (c : Dev nD) (k : Fin 5) : sProp 𝕄 :=
  iprop(dutyTok ER (dmaCell (sendR k) c) 0 0 ∗ dutyTok ER (dmaCell (recvR k) c) 0 0 ∗ dutyTok ER (dmaCell (sendA k) c) 0 0
    ∗ dutyTok ER (dmaCell (recvA k) c) 0 0 ∗ dutyTok ER (barCell c) 0 k)
def pays (c : Dev nD) (k : Fin 5) : sProp 𝕄 :=
  iprop(dutyTok ER (dmaCell (sendR k) c) 0 0 ∗ dutyTok ER (dmaCell (recvR k) (peer k c)) 0 0 ∗ dutyTok ER (dmaCell (sendA k) c) 0 0
    ∗ dutyTok ER (dmaCell (recvA k) (peer k c)) 0 0 ∗ dutyTok ER (barCell (peer k c)) 0 k)
/-- The credit for what the partner sends. -/
def credits (c : Dev nD) (k : Fin 5) : sProp 𝕄 :=
  iprop(cred (tallyAt (dmaCell (recvR k) c) () (N k)) ∗ cred (tallyAt (dmaCell (recvA k) c) () (N k)))

theorem kit0_intro (κ : GSem nD τ sig → ℕ) (c : Dev nD) (k : Fin 5) :
    iprop(records P κ ∗ (openers c k ∗ pays c k ∗ credits c k)) ⊢ kit0 P κ k c := by
  unfold kit0 half0 openers pays credits
  iintro ⟨#HR, ⟨O1, O2, O3, O4⟩, ⟨T1, T2, T3, T4, T5⟩, C1, C2⟩
  isplitl [T5]
  · isplitr; · iapply (inv_at P κ (bar_mem (peer k c))); iexact HR
    isplitr; · iapply (reached_at P κ (peer k c)); iexact HR
    iexact T5
  isplitl [O1 O2 T1 T2 C1]
  · isplitr; · iapply (inv_at P κ (sc_mem c k 0)); iexact HR
    isplitr; · iapply (inv_at P κ (sc_mem (peer k c) k 1)); iexact HR
    isplitr; · iapply (inv_at P κ (sc_mem c k 1)); iexact HR
    isplitl [O1]; · iexact O1
    isplitl [O2]; · iexact O2
    isplitl [T1]; · iexact T1
    isplitl [T2]; · iexact T2
    iexact C1
  isplitr; · iapply (inv_at P κ (sc_mem c k 2)); iexact HR
  isplitr; · iapply (inv_at P κ (sc_mem (peer k c) k 3)); iexact HR
  isplitr; · iapply (inv_at P κ (sc_mem c k 3)); iexact HR
  isplitl [O3]; · iexact O3
  isplitl [O4]; · iexact O4
  isplitl [T3]; · iexact T3
  isplitl [T4]; · iexact T4
  iexact C2

theorem tokens_eq : bigSep tokens (fun x => (dutyTok ER x.1 x.2.1 x.2.2 : sProp 𝕄)) = bigSep Finset.univ fun c : Dev nD => bigSep Finset.univ fun k => due c k := by
  unfold tokens; rw [bigSep_map, bigSep_univ_prod]
  refine bigSep_congr fun c _ => ?_
  rw [bigSep_univ_prod]
  refine bigSep_congr fun k _ => ?_
  rw [bigSep_univ_eq_bigSepL [0, 1, 2, 3, 4] (by decide) (by decide)]
  rfl

theorem openers_eq : bigSep scCells (fun g => (openTok ER g : sProp 𝕄)) = bigSep Finset.univ fun c : Dev nD => bigSep Finset.univ fun k => openers c k := by
  rw [bigSep_map, bigSep_univ_prod]
  refine bigSep_congr fun c _ => ?_
  rw [bigSep_univ_prod]
  refine bigSep_congr fun k _ => ?_
  rw [bigSep_univ_eq_bigSepL [0, 1, 2, 3] (by decide) (by decide)]
  rfl

/-- Going to the `k`-th partner permutes the devices. -/
def around (k : Fin 5) : Dev nD ≃ Dev nD := ⟨peer k, peer k, peer_peer k, peer_peer k⟩
theorem bigSep_around (Φ : Fin 5 → Dev nD → sProp 𝕄) :
    (bigSep Finset.univ fun c : Dev nD => bigSep Finset.univ fun k => Φ k c) = bigSep Finset.univ fun c : Dev nD => bigSep Finset.univ fun k => Φ k (peer k c) := by
  rw [bigSep_univ_comm, bigSep_univ_comm (fun c k => Φ k (peer k c))]
  exact bigSep_congr fun k _ => bigSep_univ_equiv (around k) (Φ k)

/-- The tokens of the receive and barrier duties go to the partners that pay them. -/
theorem due_pays : (bigSep Finset.univ fun c : Dev nD => bigSep Finset.univ fun k => (due c k : sProp 𝕄)) = bigSep Finset.univ fun c : Dev nD => bigSep Finset.univ fun k => pays c k := by
  unfold due pays
  simp only [bigSep_sep']
  rw [bigSep_around (fun k c => (dutyTok ER (dmaCell (recvR k) c) 0 0 : sProp 𝕄)), bigSep_around (fun k c => (dutyTok ER (dmaCell (recvA k) c) 0 0 : sProp 𝕄)),
    bigSep_around (fun k c => (dutyTok ER (barCell c) 0 k : sProp 𝕄))]

/-! ## The credit -/

theorem owed_parts (d : Dev nD) : O₀ d = ∑ k : Fin 5, (dueOfA d k + dueOfR d k + dueOfB d k) := by
  rw [Fin.sum_univ_five]
  show 0 + dueOfA d 0 + dueOfA d 1 + dueOfA d 2 + dueOfA d 3 + dueOfA d 4 + dueOfR d 4 + dueOfR d 3 + dueOfR d 2 + dueOfR d 1 + dueOfR d 0
    + dueOfB d 4 + dueOfB d 3 + dueOfB d 2 + dueOfB d 1 + dueOfB d 0 = _
  rw [zero_add]
  ac_rfl

theorem tally_sum (k : Fin 5) (s s' : SemLoc sig) (n : ℕ) (c : Dev nD) :
    (∑ d : Dev nD, (tallyAt ((peer k d : Thread nD τ), s) () n : CellTallies nD τ sig Unit) ((c : Thread nD τ), s') ()) = if s = s' then n else 0 := by
  rw [Fintype.sum_eq_single (peer k c) fun d hd => ?_]
  · rw [tallyAt_apply, peer_peer]
    by_cases h : s = s'
    · subst h; rw [if_pos ⟨rfl, rfl⟩, if_pos rfl]
    · rw [if_neg (fun e => h (congrArg Prod.snd e.1).symm), if_neg h]
  · rw [tallyAt_apply, if_neg]
    rintro ⟨e, -⟩
    exact hd (by rw [show c = peer k d from congrArg (fun g : GSem nD τ sig => g.1.1) e, peer_peer])

theorem owed_sum (c : Dev nD) (s' : SemLoc sig) : (∑ d : Dev nD, O₀ d ((c : Thread nD τ), s') ())
    = ∑ k : Fin 5, ((if SemLoc.dma (recvA k) = s' then N k else 0) + (if SemLoc.dma (recvR k) = s' then N k else 0) + (if SemLoc.reg barS = s' then 1 else 0)) := by
  simp only [owed_parts, Finset.sum_apply, Finsupp.finset_sum_apply, Pi.add_apply, Finsupp.add_apply]
  rw [Finset.sum_comm]
  refine Finset.sum_congr rfl fun k _ => ?_
  rw [Finset.sum_add_distrib, Finset.sum_add_distrib]
  unfold dueOfA dueOfR dueOfB
  rw [tally_sum, tally_sum, tally_sum]

theorem credit_of (c : Dev nD) (s : SemLoc sig) (n : ℕ) (h : (∑ d : Dev nD, O₀ d ((c : Thread nD τ), s) ()) = n) :
    tallyOn ((c : Thread nD τ), s) (launchCredit (Pipeline.owing O₀) 0 ((c : Thread nD τ), s)) = (tallyAt ((c : Thread nD τ), s) () n : CellTallies nD τ sig Unit) := by
  unfold tallyAt; refine congrArg _ (Finsupp.ext fun u => ?_); cases u
  rw [Pipeline.launchCredit_owing, Finsupp.single_eq_same, h]

theorem owed_bar (c : Dev nD) : (∑ d : Dev nD, O₀ d (barCell c) ()) = 5 := by
  rw [owed_sum, Finset.sum_congr rfl (g := fun _ => 1) fun k _ => by rw [if_neg (by rintro ⟨⟩), if_neg (by rintro ⟨⟩), if_pos rfl]]; rfl
theorem owed_R (c : Dev nD) (k : Fin 5) : (∑ d : Dev nD, O₀ d (dmaCell (recvR k) c) ()) = N k := by
  rw [owed_sum, Fintype.sum_eq_single k fun j hj => by
    rw [if_neg (by revert j k; decide), if_neg (by revert j k; decide), if_neg (by rintro ⟨⟩)]; rfl]
  rw [if_neg (by revert k; decide), if_pos rfl, if_neg (by rintro ⟨⟩), Nat.zero_add, Nat.add_zero]
theorem owed_A (c : Dev nD) (k : Fin 5) : (∑ d : Dev nD, O₀ d (dmaCell (recvA k) c) ()) = N k := by
  rw [owed_sum, Fintype.sum_eq_single k fun j hj => by
    rw [if_neg (by revert j k; decide), if_neg (by revert j k; decide), if_neg (by rintro ⟨⟩)]; rfl]
  rw [if_neg (by revert k; decide : ¬ SemLoc.dma (recvR k) = SemLoc.dma (recvA k)), if_pos rfl, if_neg (by rintro ⟨⟩), Nat.add_zero]

/-- The receive semaphores. -/
def recvEmb : Fin 5 × Fin 2 ↪ SemLoc sig :=
  ⟨fun x => .dma ((![recvR x.1, recvA x.1] : Fin 2 → DmaSem sig) x.2), by decide⟩

theorem creds (c : Dev nD) : (Pipeline.launchCred O₀ c : sProp 𝕄) ⊢ iprop(cred (tallyAt (barCell c) () 5) ∗ bigSep Finset.univ fun k => credits c k) := by
  unfold Pipeline.launchCred
  rw [bigSep_univ_at _ (SemLoc.reg barS), credit_of c _ 5 (owed_bar c)]
  refine sep_mono_right ?_
  rw [show (bigSep Finset.univ fun k => (credits c k : sProp 𝕄)) = bigSep (Finset.univ.map recvEmb) fun s : SemLoc sig =>
      (cred (tallyOn ((c : Thread nD τ), s) (launchCredit (Pipeline.owing O₀) 0 ((c : Thread nD τ), s))) : sProp 𝕄) from by
    rw [bigSep_map, bigSep_univ_prod]
    refine bigSep_congr fun k _ => ?_
    rw [BI.bigSep_fin_two]
    unfold credits
    rw [← credit_of c _ (N k) (owed_R c k), ← credit_of c _ (N k) (owed_A c k)]
    rfl]
  refine bigSep_subset fun s hs => ?_
  obtain ⟨x, -, rfl⟩ := Finset.mem_map.mp hs
  exact Finset.mem_erase.mpr ⟨fun h => (by cases h), Finset.mem_univ _⟩

/-! ## From the launch to the region -/

variable (m : (ℓ : Loc nD τ sig) → Buf (Elt F) ℓ) (ρ : Dev nD → PrngReg)

/-- Beside the buffers up to the region: the protocol's rights, the dues, the random register. -/
def rest (c : Dev nD) : sProp 𝕄 := iprop(Tk (parts m) c ∗ owing c (O₀ c) ∗ ∃ r, prngReg c r)
/-- Beside the buffers after it. -/
def rest' (c : Dev nD) : sProp 𝕄 := iprop(semVal (barCell c) 0 ∗ owing c 0)

abbrev T₀ (c : Dev nD) : sProp 𝕄 := iprop(StableHlo.held (c : Thread nD τ) (Pipeline.ucRefs τ sig) (V0 m c) ∗ rest m c)

/-- What a device has at launch that stays with it. -/
def own0 (c : Dev nD) : sProp 𝕄 :=
  iprop(StableHlo.held (c : Thread nD τ) (Pipeline.ucRefs τ sig) (V0 m c) ∗ cred (tallyAt (barCell c) () 5) ∗ owing c (O₀ c) ∗ ∃ r, prngReg c r)
/-- What the launch hands one device beside the records. -/
def mine (c : Dev nD) : sProp 𝕄 :=
  iprop(own0 m c
    ∗ atPos ER (barCell c) 0 ∅ 0 ∗ bigSep Finset.univ fun k => iprop(openers c k ∗ pays c k ∗ credits c k))

theorem T₀_intro (κ : GSem nD τ sig → ℕ) (c : Dev nD) : iprop(records (parts m) κ ∗ mine m c) ⊢ T₀ m c := by
  unfold mine own0 T₀ rest Tk barKit
  iintro ⟨#HR, ⟨Hh, HC, HO, Hp⟩, Ha, HK⟩
  isplitl [Hh]; · iexact Hh
  isplitl [HC Ha HK]
  · iexists κ
    isplitl [HK]
    · iapply (bigSep_with_persistent (R := records (parts m) κ) (Φ := fun k => iprop(openers c k ∗ pays c k ∗ credits c k)) fun k _ => kit0_intro (parts m) κ c k)
      isplitr; · iexact HR
      iexact HK
    isplitr; · iapply (inv_at (parts m) κ (bar_mem c)); iexact HR
    isplitl [HC]; · iexact HC
    iexact Ha
  isplitl [HO]; · iexact HO
  iexact Hp

theorem unscoped_eq : ∀ sm : SemLoc sig, sm.isScoped .tc = false → sm = .reg barS := by decide
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What one device holds at launch, sorted. -/
theorem sorted (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(own0 m c
      ∗ semVal (barCell c) 0 ∗ G c ∗ bigSep Finset.univ fun k => credits c k) : sProp 𝕄) := by
  rw [show (unscopedBufs c (fun b => m ((c : Thread nD τ).loc b)) : sProp 𝕄) = StableHlo.held (c : Thread nD τ) (Pipeline.ucRefs τ sig) (V0 m c) from Pipeline.unscopedBufs_held c (V0 m c),
    unscopedSems0_eq]
  unfold own0 owing
  iintro ⟨Hh, Hus, HO, Hcr, Hp, HG⟩
  ihave Hc := (creds (F := F) c) $$ Hcr
  icases Hc with ⟨H1, HN⟩
  isplitl [Hh H1 HO Hp]
  · isplitl [Hh]; · iexact Hh
    isplitl [H1]; · iexact H1
    isplitl [HO]; · iexists ∅; iexact HO
    iexists (ρ c); iexact Hp
  isplitl [Hus]; · iexact Hus
  isplitl [HG]; · iexact HG
  iexact HN

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  refine (sep_mono (bigSep_mono fun c _ => sorted m ρ c) .rfl).trans ?_
  unfold G
  rw [bigSep_sep', bigSep_sep', bigSep_sep', bigSep_parked]
  iintro ⟨⟨HB, Hv, Hu, Hc⟩, -⟩
  ihave Hv := (show (bigSep Finset.univ fun c : Dev nD => (semVal (barCell c) 0 : sProp 𝕄)) ⊢ bigSep barCells fun g => (semVal g 0 : sProp 𝕄) from
    Entails.of_eq (bigSep_map (s := Finset.univ) barEmb (Φ := fun g : GSem nD τ sig => (semVal g 0 : sProp 𝕄))).symm) $$ Hv
  imod (Rounds.fund_launch ER (Rd (parts m)) disjoint_cells (fun g _ h => h) tokens) $$ [Hv Hu] with ⟨%κ, -, #Hinv, #Hr, Hat, Hopen, Htok⟩
  · isplitl [Hv]; · iexact Hv
    iexact Hu
  imodintro
  iapply (bigSep_with_persistent (R := records (parts m) κ) (Φ := mine m) fun c _ => T₀_intro m κ c)
  isplitr
  · unfold records
    isplitr; · iexact Hinv
    iexact Hr
  unfold mine
  rw [bigSep_sep', bigSep_sep']
  isplitl [HB]; · iexact HB
  isplitl [Hat]
  · iapply (show (bigSep barCells fun g => (atPos ER g 0 ∅ 0 : sProp 𝕄)) ⊢ bigSep Finset.univ fun c : Dev nD => (atPos ER (barCell c) 0 ∅ 0 : sProp 𝕄) from
      Entails.of_eq (bigSep_map (s := Finset.univ) barEmb (Φ := fun g : GSem nD τ sig => (atPos ER g 0 ∅ 0 : sProp 𝕄)))); iexact Hat
  ihave Hopen := (Entails.of_eq (openers_eq (F := F))) $$ Hopen
  ihave Htok := (Entails.of_eq ((tokens_eq (F := F)).trans due_pays)) $$ Htok
  simp only [bigSep_sep']
  isplitl [Hopen]; · iexact Hopen
  isplitl [Htok]; · iexact Htok
  iexact Hc

/-! ## The run -/

/-- What the buffers hold at the end. -/
def W3 (c : Dev nD) : Valuation τ sig (Elt F) := StableHlo.after hostOps1 (W2 m c)

theorem W3_of (c : Dev nD) (r : Ref sig .tc) (h1 : r ∉ hostOps1_W) (h2 : r ≠ main_v15) (h3 : r ∉ hostOps0_W) : W3 m c (Proc.devRef .tc r) = m ((c : Thread nD τ).loc r) :=
  (StableHlo.after_of_writes_sub hostOps1 _ hostOps1_writes h1).trans ((W2_ne m c _ (StableHlo.devRef_ne_of_ne h2)).trans (V1_of m c r h3))

/-- The program's three stretches on device `c`: what the host computes, the region, the last reshape. -/
def stretches (c : Dev nD) : List (Pipeline.Seg (pcfgs (F := F)) adm (pdats m) () defs₀ 𝒱₀ L lv) :=
  [.host (seg0 m 𝒱₀ L lv (fun _ => rest m) c), .region (reg m),
    .host (Pipeline.HostSeg.ofOps _ _ _ _ _ (Pipeline.ucRefs τ sig) hostOps1
      (fun op h => Pipeline.sub_ucRefs op ((List.forall_iff_forall_mem.mp hostOps1_sub) op h))
      (fun op h => (List.forall_iff_forall_mem.mp hostOps1_fresh) op h) (W2 m) rest')]

theorem arr_sub : Pipeline.arrRefs (τ := τ) spec0 ⊆ Pipeline.ucRefs τ sig := by decide

theorem reg_pre (c : Dev nD) : iprop(StableHlo.held (c : Thread nD τ) (Pipeline.ucRefs τ sig) (V1 m c) ∗ rest m c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk (parts m) c ∗ ∃ Wd, owes (c : Thread nD τ) (0 + O₀ c) Wd)
  rw [zero_add, StableHlo.held_sub_split (c.tc : Thread nD τ) arr_sub (V1 m c)]
  unfold rest owing
  iintro ⟨⟨Ha, Hh⟩, HT, HO, Hp⟩
  isplitl [Ha]; · iexact Ha
  isplitl [Hp]; · iexact Hp
  isplitl [Hh]
  · isplitl [Hh]; · iexact Hh
    iempintro
  isplitl [HT]; · iexact HT
  iexact HO

theorem reg_post (c : Dev nD) : (reg m).post c ⊢ iprop(StableHlo.held (c : Thread nD τ) (Pipeline.ucRefs τ sig) (W2 m c) ∗ rest' c) := by
  show iprop(StableHlo.held (c.tc : Thread nD τ) (Pipeline.arrRefs (τ := τ) spec0) (W2 m c) ∗ (∃ r, prngReg c r)
    ∗ (StableHlo.held (c.tc : Thread nD τ) others (W2 m c) ∗ emp) ∗ Yk c ∗ ∃ Wd, owes (c : Thread nD τ) (0 : CellTallies nD τ sig Unit) Wd) ⊢ _
  rw [StableHlo.held_sub_split (c.tc : Thread nD τ) arr_sub (W2 m c)]
  unfold Yk rest' owing
  iintro ⟨Ha, -, ⟨Hh, -⟩, Hb, HO⟩
  isplitl [Ha Hh]
  · isplitl [Ha]; · iexact Ha
    iexact Hh
  isplitl [Hb]; · iexact Hb
  iexact HO

/-- Held at the end. -/
def Tend (c : Dev nD) : sProp 𝕄 := iprop(StableHlo.held (c : Thread nD τ) (Pipeline.ucRefs τ sig) (W3 m c) ∗ semVal (barCell c) 0)

theorem last_step (c : Dev nD) : iprop(StableHlo.held (c : Thread nD τ) (Pipeline.ucRefs τ sig) (W3 m c) ∗ rest' c)
    ⊢ iprop(Tend m c ∗ ∃ W, owes (c : Thread nD τ) (0 : CellTallies nD τ sig Unit) W) := by
  unfold rest' Tend owing
  iintro ⟨Hh, Hb, HO⟩
  isplitl [Hh Hb]
  · isplitl [Hh]; · iexact Hh
    iexact Hb
  iexact HO

/-- What is read off one device's final memory. -/
def Ends (c : Dev nD) (s : MemSt nD τ sig (Elt F)) : Prop :=
  (∀ b ∈ Pipeline.ucRefs τ sig, s.mem (c, b) = W3 m c b) ∧ s.sem (barCell c) = 0

theorem read_end (c : Dev nD) (s' : Phys nD τ sig (Elt F)) : iprop(Tend m c ∗ SI s') ⊢ (|={Set.univ}=> iprop(⌜Ends m c s'.mem⌝ ∗ SI s') : sProp 𝕄) := by
  unfold Tend StableHlo.held
  iintro ⟨⟨Hh, Hb⟩, HSI⟩
  ihave Hr := (pointsTo_read_all (Pipeline.ucRefs τ sig) (fun b => ((c : Thread nD τ).1, b)) (W3 m c) s') $$ [Hh HSI]
  · isplitl [Hh] <;> iassumption
  icases Hr with ⟨%h, HSI⟩
  icombine HSI Hb gives %hb
  imodintro
  isplitr
  · ipureintro
    exact ⟨h, by simpa using hb⟩
  iexact HSI

set_option backward.isDefEq.respectTransparency.types false in
/-- Every fair run from zero counters ends, with every unscoped buffer at `W3` and every counter at zero. -/
theorem run_main : θ_run defs (onTc (τ := τ) (main (F := F))) ⟨m, fun _ => 0, ρ⟩
    (fun r => (∀ c : Dev nD, ∀ b ∈ Pipeline.ucRefs τ sig, r.2.mem (c, b) = W3 m c b) ∧ r.2.sem = fun _ => 0) :=
  Pipeline.θ_run_regions_kit_dev_sems (pcfgs (F := F)) adm (pdats m) () cellOf_inj EP defs₀ 𝒱₀ L lv m ρ main (stretches m)
    (fun c Q => by
      rewrite [main_chain c, Pipeline.Seg.run_eq_chain,
        show (stretches m c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [stretches, Pipeline.Seg.pipes_host, Pipeline.Seg.pipes_region, Pipeline.Seg.pipes_nil]; decide) O₀ L_of_ne G u₀
    (by
      unfold u₀ G
      iintro Hu
      ihave H := (ownU_pair _ _) $$ Hu
      icases H with ⟨HP, HX⟩
      imodintro
      isplitl [HP]; · iexact HP
      rw [bigSep_parked]; iexact HX)
    (T₀ m) (Tend m)
    (fun c => ⟨.rfl, reg_pre m c, reg_post m c, last_step m c⟩)
    (init m ρ) (Ends m) (read_end m)
    (fun s h hs => ⟨fun c => (h c).1, sem_eq_zero hs fun c sm hsm => by
        obtain rfl := unscoped_eq sm hsm
        exact (h c).2⟩)

end Cert.AllReduce

end
-- ==== Proof.Partial.lean ====
/-
A device's partial product over the extended reals, read at an element: the sum over the device's heads, and over the
head's 64 columns, of the softmax-weighted values times the output weights.
-/
module

public import proofs.«01_k».proof.Proof.Attention
public import Idealize.ShloMosaic.Lib.Pointwise

@[expose] public section

noncomputable section

namespace Cert.AllReduce

open Cert.KernelIdeal Cert.KernelIdeal.Gen
open Idealize.ShloMosaic

/-! ## One row of attention, as mathematics -/

/-- The constant by which scores are scaled. -/
def scale : EReal := Ideal.ofBits .f32 0x3E000000#32
/-- The constant that stands for a score outside the band. -/
def outside : EReal := Ideal.ofBits .f32 0xCE6E6B28#32
/-- Whether position `l` is within the band of position `r`. -/
def inBand (r l : Fin 512) : BitVec 1 :=
  IntOp.cmpi .sle (IntOp.absi (IntOp.subi (BitVec.ofNat 32 r.val) (BitVec.ofNat 32 l.val))) 128#32
/-- A row's greatest score. -/
def top (s : Fin 512 → EReal) : EReal := Finset.fold max (Ideal.ofBits .f32 0xFF800000#32) s Finset.univ
/-- A row's softmax. -/
def soft (s : Fin 512 → EReal) (l : Fin 512) : EReal :=
  Ideal.div (Ideal.exp (s l - top s)) (∑ l', Ideal.exp (s l' - top s))
/-- A row's scores, those outside the band replaced. -/
def masked (r : Fin 512) (s : Fin 512 → EReal) (l : Fin 512) : EReal := Scalar.select (inBand r l) (s l) outside
/-- Row `r` of a head's output at column `e`: the values weighted by the softmax of the scores. -/
def mix (r : Fin 512) (s : Fin 512 → EReal) (v : Fin 512 → Fin 64 → EReal) (e : Fin 64) : EReal :=
  ∑ l, soft (masked r s) l * v l e

/-! ## The blocks a head reads -/

set_option maxRecDepth 16384

/-- Column `e` of head `h` among a device's 512 columns. -/
def colOf (h : Fin 8) (e : Fin 64) : Fin 512 := ⟨64 * h.val + e.val, by omega⟩

theorem xAt_apply (X : FVec Ideal S2x512x768 .bf16) (b : Fin 2) (r : Fin 512) (t : Fin 768) :
    xAt X b (ix3 0 r t) = X (ix3 b r t) := by
  show X ((Rect.unit (s := S2x512x768) ![b.val, 0, 0] S1x512x768.size (inb_x b)).toLoadRect.idx (ix3 0 r t)) = _
  pointwise

theorem wqAt_apply (Wq : FVec Ideal S768x512 .bf16) (h : Fin 8) (t : Fin 768) (e : Fin 64) :
    wqAt Wq h (ix2 t e) = Wq (ix2 t (colOf h e)) := by
  show Wq ((Rect.unit (s := S768x512) ![0, 64 * h.val] S768x64.size (inb_wq h)).toLoadRect.idx (ix2 t e)) = _
  pointwise [colOf]

theorem kAt_apply (K : FVec Ideal S2x512x8x64 .bf16) (b : Fin 2) (h : Fin 8) (l : Fin 512) (e : Fin 64) :
    kAt K b h (ix4 0 l 0 e) = K (ix4 b l h e) := by
  show K ((Rect.unit (s := S2x512x8x64) ![b.val, 0, h.val, 0] S1x512x1x64.size (inb_kv b h)).toLoadRect.idx (ix4 0 l 0 e)) = _
  pointwise

theorem vAt_apply (V : FVec Ideal S2x512x8x64 .bf16) (b : Fin 2) (h : Fin 8) (l : Fin 512) (e : Fin 64) :
    vAt V b h (ix4 0 l 0 e) = V (ix4 b l h e) := by
  show V ((Rect.unit (s := S2x512x8x64) ![b.val, 0, h.val, 0] S1x512x1x64.size (inb_kv b h)).toLoadRect.idx (ix4 0 l 0 e)) = _
  pointwise

theorem woAt_apply (Wo : FVec Ideal S512x768 .bf16) (h : Fin 8) (e : Fin 64) (n : Fin 768) :
    woAt Wo h (ix2 e n) = Wo (ix2 (colOf h e) n) := by
  show Wo ((Rect.unit (s := S512x768) ![64 * h.val, 0] S64x768.size (inb_wo h)).toLoadRect.idx (ix2 e n)) = _
  pointwise [colOf]

/-! ## One head -/

theorem qryOf_apply (x : FVec Ideal S1x512x768 .bf16) (wq : FVec Ideal S768x64 .bf16) (r : Fin 512) (e : Fin 64) :
    qryOf x wq (ix2 r e) = (∑ t, x (ix3 0 r t) * wq (ix2 t e)) * scale := by
  pointwise [qryOf, scale]

theorem scoreOf_apply (q : FVec Ideal S512x64 .bf16) (k : FVec Ideal S1x512x1x64 .bf16) (r l : Fin 512) :
    scoreOf q k (ix2 r l) = masked r (fun l => ∑ e, q (ix2 r e) * k (ix4 0 l 0 e)) l := by
  pointwise [scoreOf, k0_pay2, masked, inBand, outside]

theorem probOf_apply (s : FVec Ideal S512x512 .f32) (r l : Fin 512) :
    probOf (expOf s) (ix2 r l) = soft (fun l => s (ix2 r l)) l := by
  pointwise [probOf, expOf, soft, top]

theorem headOf_apply (p : FVec Ideal S512x512 .f32) (v : FVec Ideal S1x512x1x64 .bf16) (wo : FVec Ideal S64x768 .bf16)
    (r : Fin 512) (n : Fin 768) :
    headOf p v wo (ix2 r n) = ∑ e, (∑ l, p (ix2 r l) * v (ix4 0 l 0 e)) * wo (ix2 e n) := by
  pointwise [headOf]

variable (X : FVec Ideal S2x512x768 .bf16) (Wq : FVec Ideal S768x512 .bf16) (Kb Vb : FVec Ideal S2x512x8x64 .bf16) (Wo : FVec Ideal S512x768 .bf16)

/-- Row `r` of the scores of head `h` for batch `b`, the queries scaled before the product with the keys. -/
def rowScores (b : Fin 2) (h : Fin 8) (r l : Fin 512) : EReal :=
  ∑ e, (∑ t, X (ix3 b r t) * Wq (ix2 t (colOf h e))) * scale * Kb (ix4 b l h e)

/-- What a head gives, element by element. -/
theorem headVal_apply (b : Fin 2) (h : Fin 8) (r : Fin 512) (n : Fin 768) :
    headVal X Wq Kb Vb Wo b h (ix2 r n)
      = ∑ e, mix r (rowScores X Wq Kb b h r) (fun l e => Vb (ix4 b l h e)) e * Wo (ix2 (colOf h e) n) := by
  rw [headVal, headOf_apply]
  simp only [probOf_apply, scoreOf_apply, qryOf_apply, xAt_apply, wqAt_apply, kAt_apply, vAt_apply, woAt_apply]
  rfl

/-- The first `n` heads' sum, element by element. -/
theorem headSum_apply (b : Fin 2) (n : ℕ) (i : S512x768.Idx) :
    headSum X Wq Kb Vb Wo b n i = ∑ h ∈ Finset.range n, (headVal X Wq Kb Vb Wo b (Fin.ofNat 8 h) i : EReal) := by
  induction n with
  | zero => exact Ideal.ofBits_zero_f32
  | succ n ih =>
    refine Eq.trans (b := (headSum X Wq Kb Vb Wo b n i + headVal X Wq Kb Vb Wo b (Fin.ofNat 8 n) i : EReal)) rfl ?_
    rw [ih, Finset.sum_range_succ]

/-- The eight heads' sum. -/
theorem headSum_eight (b : Fin 2) (i : S512x768.Idx) :
    headSum X Wq Kb Vb Wo b 8 i = ∑ h : Fin 8, (headVal X Wq Kb Vb Wo b h i : EReal) := by
  rw [headSum_apply, Finset.sum_range]
  refine Finset.sum_congr rfl fun h _ => ?_
  rw [show Fin.ofNat 8 h.val = h from Fin.ext (Nat.mod_eq_of_lt h.isLt)]

/-- The row of the accumulator that holds row `r` of batch `b`. -/
def rowOf (b : Fin 2) (r : Fin 512) : Fin 1024 := ⟨512 * b.val + r.val, by omega⟩

/-- A device's partial product, element by element. -/
theorem partVal_apply (b : Fin 2) (r : Fin 512) (n : Fin 768) :
    partVal X Wq Kb Vb Wo (ix2 (rowOf b r) n)
      = ∑ h : Fin 8, ∑ e, mix r (rowScores X Wq Kb b h r) (fun l e => Vb (ix4 b l h e)) e * Wo (ix2 (colOf h e) n) := by
  have hb : (if (rowOf b r).val < 512 then (0 : Fin 2) else 1) = b := by
    refine Fin.ext ?_
    unfold rowOf
    dsimp only
    split <;> simp only [Fin.val_zero, Fin.val_one] <;> omega
  have hr : (⟨(rowOf b r).val % 512, Nat.mod_lt _ (by decide)⟩ : Fin 512) = r := Fin.ext (by unfold rowOf; dsimp only; omega)
  refine Eq.trans (b := headSum X Wq Kb Vb Wo b 8 (ix2 r n)) ?_ ?_
  · show headSum X Wq Kb Vb Wo (if (rowOf b r).val < 512 then (0 : Fin 2) else 1) 8
      (ValueIdx.ix2 ⟨(rowOf b r).val % 512, Nat.mod_lt _ (by decide)⟩ n) = _
    rw [hb, hr, ix2_eq_valueIdx]
  · rw [headSum_eight]
    exact Finset.sum_congr rfl fun h _ => headVal_apply X Wq Kb Vb Wo b h r n

end Cert.AllReduce

end
-- ==== Proof.Reference.lean ====
/-
The reference's result over the extended reals, read at an element: the sum over the 16384 columns of the
softmax-weighted values times the output weights, and the same sum taken device by device, head by head, column by column.
-/
module

public import proofs.«01_k».proof.Proof.Partial
public import proofs.«01_k».proof.Proof.Gen.ReferenceIdeal.Run
public import Idealize.ShloMosaic.Lib.Tactic.CleanTypes
public import Idealize.ShloMosaic.Lib.Routing.OpsOrder

@[expose] public section

noncomputable section

namespace Cert.AllReduce

open Idealize.ShloMosaic Idealize.ShloMosaic.TcCoe

/-! ## Laws of the extended reals that the two texts need -/

/-- The scale is a finite number that is not negative, -/
theorem scale_nonneg : 0 ≤ scale ∧ scale ≠ ⊤ := by
  have h : scale = ((1 / 8 : ℝ) : EReal) := by
    unfold scale
    simp [Ideal.ofBits, Ideal.ieee, -EReal.coe_mul]; norm_num
  rw [h]
  exact ⟨EReal.coe_nonneg.mpr (by norm_num), EReal.coe_ne_top _⟩

/-- so it may be multiplied into a sum, whatever the terms are. -/
theorem sum_mul_scale {ι : Type} (s : Finset ι) (f : ι → EReal) : (∑ i ∈ s, f i) * scale = ∑ i ∈ s, f i * scale := by
  classical
  induction s using Finset.induction_on with
  | empty => rw [Finset.sum_empty, Finset.sum_empty, zero_mul]
  | insert a s ha ih =>
    rw [Finset.sum_insert ha, Finset.sum_insert ha, EReal.right_distrib_of_nonneg_of_ne_top scale_nonneg.1 scale_nonneg.2, ih]

/-- A position is within its own band, -/
theorem inBand_self (r : Fin 512) : inBand r r = 1#1 := by
  unfold inBand IntOp.subi
  rw [BitVec.sub_self]
  decide

/-- so no row is without a position in its band. -/
theorem keep_row (r : Fin 512) :
    Finset.fold IntOp.ori (0#1) (fun x : Fin 512 => IntOp.cmpi .sle (IntOp.absi (IntOp.subi (BitVec.ofNat 32 r.val) (BitVec.ofNat 32 x.val))) 128#32)
      Finset.univ = 1#1 :=
  (Routing.fold_ori _ _).mpr ⟨r, Finset.mem_univ _, inBand_self r⟩

/-! ## The whole result -/

variable (X : FVec Ideal ⟨3, ![2, 512, 768]⟩ .bf16) (Wq : FVec Ideal ⟨2, ![768, 16384]⟩ .bf16)
  (K V : FVec Ideal ⟨4, ![2, 512, 256, 64]⟩ .bf16) (Wo : FVec Ideal ⟨2, ![16384, 768]⟩ .bf16)

/-- Column `e` of head `H` among the 16384 columns. -/
def wholeCol (H : Fin 256) (e : Fin 64) : Fin 16384 := ⟨H.val * 64 + e.val, by omega⟩

/-- Row `r` of head `H`'s scores for batch `b`. -/
def wholeScores (b : Fin 2) (H : Fin 256) (r l : Fin 512) : EReal :=
  (∑ e, (∑ t, X (ix3 b r t) * Wq (ix2 t (wholeCol H e))) * K (ix4 b l H e)) * scale

/-- Element `(r, n)` of batch `b` of the result: the sum over all columns. -/
def wholeOut (b : Fin 2) (r : Fin 512) (n : Fin 768) : EReal :=
  ∑ k : Fin 16384, mix r (wholeScores X Wq K b ⟨k.val / 64, by omega⟩ r) (fun l e => V (ix4 b l ⟨k.val / 64, by omega⟩ e))
    ⟨k.val % 64, by omega⟩ * Wo (ix2 k n)

/-- The scale may be multiplied into the queries instead. -/
theorem wholeScores_eq (b : Fin 2) (H : Fin 256) (r l : Fin 512) :
    wholeScores X Wq K b H r l = ∑ e, (∑ t, X (ix3 b r t) * Wq (ix2 t (wholeCol H e))) * scale * K (ix4 b l H e) := by
  unfold wholeScores
  rw [sum_mul_scale]
  exact Finset.sum_congr rfl fun e _ => by rw [mul_assoc, mul_comm (K _), ← mul_assoc]

/-- A sum over `m * n` positions, `n` at a time. -/
theorem sum_tiles {m n : ℕ} (N : ℕ) (h : m * n = N) (f : Fin N → EReal) :
    ∑ k, f k = ∑ a : Fin m, ∑ c : Fin n, f ⟨a.val * n + c.val, by
      subst h
      calc a.val * n + c.val < a.val * n + n := Nat.add_lt_add_left c.isLt _
        _ = (a.val + 1) * n := (Nat.succ_mul _ _).symm
        _ ≤ m * n := Nat.mul_le_mul_right _ a.isLt⟩ := by
  subst h
  rw [← Fintype.sum_prod_type' (f := fun (a : Fin m) (c : Fin n) => f ⟨a.val * n + c.val, _⟩)]
  refine (Fintype.sum_equiv finProdFinEquiv _ _ fun x => congrArg f (Fin.ext ?_)).symm
  simp only [finProdFinEquiv_apply_val]
  rw [Nat.add_comm, Nat.mul_comm]

/-- Head `h` of device `d` among the 256 heads. -/
def headOn (d : Fin 32) (h : Fin 8) : Fin 256 := ⟨d.val * 8 + h.val, by omega⟩

/-- The result, device by device, head by head, column by column. -/
theorem wholeOut_eq (b : Fin 2) (r : Fin 512) (n : Fin 768) :
    wholeOut X Wq K V Wo b r n = ∑ d : Fin 32, ∑ h : Fin 8, ∑ e : Fin 64,
      mix r (wholeScores X Wq K b (headOn d h) r) (fun l e => V (ix4 b l (headOn d h) e)) e * Wo (ix2 (wholeCol (headOn d h) e) n) := by
  unfold wholeOut
  rw [sum_tiles (m := 256) (n := 64) 16384 rfl, sum_tiles (m := 32) (n := 8) 256 rfl]
  refine Finset.sum_congr rfl fun d _ => Finset.sum_congr rfl fun h _ => Finset.sum_congr rfl fun e _ => ?_
  have h1 : ∀ p, (⟨((d.val * 8 + h.val) * 64 + e.val) / 64, p⟩ : Fin 256) = headOn d h := fun p => Fin.ext (by unfold headOn; dsimp only; omega)
  have h2 : ∀ p, (⟨((d.val * 8 + h.val) * 64 + e.val) % 64, p⟩ : Fin 64) = e := fun p => Fin.ext (by dsimp only; omega)
  simp only [h1, h2]
  rfl

end Cert.AllReduce

namespace Cert.AllReduce

open Cert.ReferenceIdeal Cert.ReferenceIdeal.Value
open Idealize.ShloMosaic Idealize.ShloMosaic.TcCoe

set_option maxRecDepth 16384
set_option maxHeartbeats 2000000

/-- What the reference computes, element by element. -/
theorem reference_apply (m : (ℓ : Loc ReferenceIdeal.nD ReferenceIdeal.τ ReferenceIdeal.sig) → Buf (Elt Ideal) ℓ) (c : Dev ReferenceIdeal.nD)
    (b : Fin 2) (r : Fin 512) (n : Fin 768) :
    (res_main_v37 (F := Ideal) m c : FVec Ideal ⟨3, ![2, 512, 768]⟩ .f32) (ix3 b r n)
      = wholeOut (m ((c.tc : Thread ReferenceIdeal.nD ReferenceIdeal.τ).loc main_arg0)) (m ((c.tc : Thread ReferenceIdeal.nD ReferenceIdeal.τ).loc main_arg1))
          (m ((c.tc : Thread ReferenceIdeal.nD ReferenceIdeal.τ).loc main_arg2)) (m ((c.tc : Thread ReferenceIdeal.nD ReferenceIdeal.τ).loc main_arg3))
          (m ((c.tc : Thread ReferenceIdeal.nD ReferenceIdeal.τ).loc main_arg4)) b r n := by
  unfold res_main_v37
  clean_types
  pointwise
  simp only [keep_row, ValueIdx.select_one]
  refine Finset.sum_congr rfl fun k _ => ?_
  refine congrArg (fun y : EReal => y * _) ?_
  exact Finset.sum_congr rfl fun l _ => mul_comm _ _

end Cert.AllReduce

end
-- ==== Proof.Inputs.lean ====
/-
What a device's kernel reads: its own arguments as they were at launch, and, of the keys and values that every device
holds whole, the device's own eight heads.
-/
module

public import proofs.«01_k».proof.Proof.Launch
public import proofs.«01_k».proof.Proof.Reference

@[expose] public section

set_option maxRecDepth 16384

noncomputable section

namespace Cert.AllReduce

open Cert.KernelIdeal Cert.KernelIdeal.Gen
open Idealize.ShloMosaic Idealize.ShloMosaic.TcCoe

variable (m : (ℓ : Loc nD τ sig) → Buf (Elt Ideal) ℓ)

theorem inX_eq (c : Dev nD) : inX m c = m ((c : Thread nD τ).loc main_arg0) := V1_of m c main_arg0 (by decide)
theorem inWq_eq (c : Dev nD) : inWq m c = m ((c : Thread nD τ).loc main_arg1) := V1_of m c main_arg1 (by decide)
theorem inWo_eq (c : Dev nD) : inWo m c = m ((c : Thread nD τ).loc main_arg4) := V1_of m c main_arg4 (by decide)

/-- The host's device index. -/
def hostDev (c : Dev nD) : IVec S_ 32 :=
  id (Host.remui (Host.divui (constantI S_ 32 (Dev.word c)) (constantI S_ 32 1#32)) (constantI S_ 32 32#32))
/-- The host's first head: eight times the device index, moved up by the head count if it were negative. -/
def hostStart (c : Dev nD) : IVec S_ 32 :=
  select (cmpi .slt (muli (hostDev c) (constantI S_ 32 8#32)) (constantI S_ 32 0#32))
    (addi (muli (hostDev c) (constantI S_ 32 8#32)) (constantI S_ 32 256#32)) (muli (hostDev c) (constantI S_ 32 8#32))

/-- Where a device's eight heads begin, axis by axis. -/
def firstHead (c : Dev nD) : Fin 4 → Int := ![0, 0, 8 * (c.val : Int), 0]

theorem hostStart_eq (c : Dev nD) : BitVec.toInt (hostStart c (Shape.Idx.first h_S_)) = firstHead c 2 := by
  rw [ValueIdx.eq_ix0 (Shape.Idx.first h_S_)]
  revert c
  decide

theorem inK_eq (c : Dev nD) :
    inK m c = Host.dynamicSlice S2x512x8x64 (m ((c : Thread nD τ).loc main_arg2)) (firstHead c) sliceFits_S2x512x256x64_S2x512x8x64 := by
  unfold inK V1 hostOps0
  after_results
  refine congrArg (fun s => Host.dynamicSlice S2x512x8x64 _ s sliceFits_S2x512x256x64_S2x512x8x64) (funext fun k => ?_)
  match k with
  | 0 =>
    refine congrArg (fun w : IVec S_ 32 => BitVec.toInt (w (Shape.Idx.first h_S_))) ((cast_eq rfl _).trans (?_ : _ = constantI S_ 32 0#32))
    show HloOp.result _ _ (Proc.devRef .tc main_c_4) = _
    after_results_simp
  | 1 =>
    refine congrArg (fun w : IVec S_ 32 => BitVec.toInt (w (Shape.Idx.first h_S_))) ((cast_eq rfl _).trans (?_ : _ = constantI S_ 32 0#32))
    show HloOp.result _ _ (Proc.devRef .tc main_c_5) = _
    after_results_simp
  | 2 =>
    refine (congrArg (fun w : IVec S_ 32 => BitVec.toInt (w (Shape.Idx.first h_S_))) ((cast_eq rfl _).trans (?_ : _ = hostStart c))).trans (hostStart_eq c)
    show HloOp.result _ _ (Proc.devRef .tc main_v8) = _
    after_results_simp
    rfl
  | 3 =>
    refine congrArg (fun w : IVec S_ 32 => BitVec.toInt (w (Shape.Idx.first h_S_))) ((cast_eq rfl _).trans (?_ : _ = constantI S_ 32 0#32))
    show HloOp.result _ _ (Proc.devRef .tc main_c_6) = _
    after_results_simp

theorem inV_eq (c : Dev nD) :
    inV m c = Host.dynamicSlice S2x512x8x64 (m ((c : Thread nD τ).loc main_arg3)) (firstHead c) sliceFits_S2x512x256x64_S2x512x8x64 := by
  unfold inV V1 hostOps0
  after_results
  refine congrArg (fun s => Host.dynamicSlice S2x512x8x64 _ s sliceFits_S2x512x256x64_S2x512x8x64) (funext fun k => ?_)
  match k with
  | 0 =>
    refine congrArg (fun w : IVec S_ 32 => BitVec.toInt (w (Shape.Idx.first h_S_))) ((cast_eq rfl _).trans (?_ : _ = constantI S_ 32 0#32))
    show HloOp.result _ _ (Proc.devRef .tc main_c_10) = _
    after_results_simp
  | 1 =>
    refine congrArg (fun w : IVec S_ 32 => BitVec.toInt (w (Shape.Idx.first h_S_))) ((cast_eq rfl _).trans (?_ : _ = constantI S_ 32 0#32))
    show HloOp.result _ _ (Proc.devRef .tc main_c_11) = _
    after_results_simp
  | 2 =>
    refine (congrArg (fun w : IVec S_ 32 => BitVec.toInt (w (Shape.Idx.first h_S_))) ((cast_eq rfl _).trans (?_ : _ = hostStart c))).trans (hostStart_eq c)
    show HloOp.result _ _ (Proc.devRef .tc main_v13) = _
    after_results_simp
    rfl
  | 3 =>
    refine congrArg (fun w : IVec S_ 32 => BitVec.toInt (w (Shape.Idx.first h_S_))) ((cast_eq rfl _).trans (?_ : _ = constantI S_ 32 0#32))
    show HloOp.result _ _ (Proc.devRef .tc main_c_12) = _
    after_results_simp

/-- The slice's start is in range, so it is not clamped. -/
theorem start_eq : ∀ (c : Dev nD) (a : Fin 4),
    Host.clampedStart S2x512x256x64 S2x512x8x64 rfl (firstHead c) a = (![0, 0, 8 * c.val, 0] : Fin 4 → ℕ) a := by
  decide

/-- The slice read at an element: head `h` of device `c`. -/
theorem heads_apply (K : FVec Ideal S2x512x256x64 .bf16) (c : Dev nD) (b : Fin 2) (l : Fin 512) (h : Fin 8) (e : Fin 64) :
    Host.dynamicSlice S2x512x8x64 K (firstHead c) sliceFits_S2x512x256x64_S2x512x8x64 (ix4 b l h e) = K (ix4 b l (headOn c h) e) := by
  pointwise
  refine congrArg K ?_
  rw [ix4_inj]
  refine ⟨Fin.ext ?_, Fin.ext ?_, Fin.ext ?_, Fin.ext ?_⟩
  · exact (congrArg (· + b.val) (start_eq c 0)).trans (Nat.zero_add _)
  · exact (congrArg (· + l.val) (start_eq c 1)).trans (Nat.zero_add _)
  · exact (congrArg (· + h.val) (start_eq c 2)).trans (congrArg (· + h.val) (Nat.mul_comm 8 c.val))
  · exact (congrArg (· + e.val) (start_eq c 3)).trans (Nat.zero_add _)

/-- A device's columns of the query weights, read at an element of a head. -/
theorem wq_block (W : FVec Ideal ⟨2, ![768, 16384]⟩ .bf16) (c : Dev nD) (t : Fin 768) (h : Fin 8) (e : Fin 64) :
    Layout.block ⟨2, ![768, 512]⟩ ⟨2, ![768, 16384]⟩ 1 32 c W (by decide) (ix2 t (colOf h e)) = W (ix2 t (wholeCol (headOn c h) e)) := by
  rw [Layout.block_apply]
  refine congrArg W (funext fun a => Fin.ext ?_)
  match a with
  | 0 => rfl
  | 1 =>
    show c.val * 512 + (64 * h.val + e.val) = (c.val * 8 + h.val) * 64 + e.val
    omega

/-- A device's rows of the output weights, read at an element of a head. -/
theorem wo_block (W : FVec Ideal ⟨2, ![16384, 768]⟩ .bf16) (c : Dev nD) (h : Fin 8) (e : Fin 64) (n : Fin 768) :
    Layout.block ⟨2, ![512, 768]⟩ ⟨2, ![16384, 768]⟩ 0 32 c W (by decide) (ix2 (colOf h e) n) = W (ix2 (wholeCol (headOn c h) e) n) := by
  rw [Layout.block_apply]
  refine congrArg W (funext fun a => Fin.ext ?_)
  match a with
  | 0 =>
    show c.val * 512 + (64 * h.val + e.val) = (c.val * 8 + h.val) * 64 + e.val
    omega
  | 1 => rfl

end Cert.AllReduce

end
-- ==== Proof.Sum.lean ====
/-
The value of the all-reduce over the extended reals: five halving steps, each adding the partner's accumulator to a
device's own, leave on every device the sum of all the devices' partial products.
-/
module

public import proofs.«01_k».proof.Proof.Body
public import Idealize.ShloMosaic.PureOps.Ideal
public import Idealize.ShloMosaic.Lib.Pointwise

@[expose] public section

noncomputable section

namespace Cert.AllReduce

open Cert.KernelIdeal Cert.KernelIdeal.Gen
open Idealize.ShloMosaic

/-- The halving steps of a list, the last one named first. -/
def folds (ks : List (Fin 5)) (P : Parts Ideal) : Parts Ideal := ks.foldr fold P

/-- The devices whose partial products those steps bring to device `c`. -/
def reach : List (Fin 5) → Dev nD → List (Dev nD)
  | [], c => [c]
  | k :: ks, c => reach ks c ++ reach ks (peer k c)

theorem fold_ideal (k : Fin 5) (B : Parts Ideal) (c : Dev nD) (i : (Sh 1024).Idx) :
    fold k B c i = (B c i + B (peer k c) i : EReal) := rfl

/-- After some steps a device holds the sum over the devices that they reach. -/
theorem folds_eq_sum (P : Parts Ideal) (i : (Sh 1024).Idx) (ks : List (Fin 5)) (c : Dev nD) :
    folds ks P c i = ((reach ks c).map fun d => (P d i : EReal)).sum := by
  induction ks generalizing c with
  | nil => exact (List.sum_singleton).symm
  | cons k ks ih =>
    refine (fold_ideal k (folds ks P) c i).trans ?_
    rw [ih, ih]
    exact (by rw [reach, List.map_append, List.sum_append])

/-- All five steps reach every device once. -/
theorem reach_all : ∀ c : Dev nD, (reach [4, 3, 2, 1, 0] c).Perm (List.finRange 32) := by decide +kernel

theorem acc_ideal (P : Parts Ideal) (c : Dev nD) (i : (Sh 1024).Idx) : acc P 5 c i = ∑ d : Dev nD, (P d i : EReal) := by
  refine (folds_eq_sum P i [4, 3, 2, 1, 0] c).trans ?_
  rw [((reach_all c).map _).sum_eq]
  exact (Fin.sum_univ_def _).symm

/-- The result that every device ends with: the sum of the partial products. -/
theorem result_ideal (P : Parts Ideal) (i : (Sh 1024).Idx) : result P i = ∑ d : Dev nD, (P d i : EReal) :=
  acc_ideal P (owner (i 0)) i

end Cert.AllReduce

end
-- ==== Proof.Frames.lean ====
/-
The frame claims: each program runs, leaves its arguments as they were and every semaphore counter at zero.
-/
module

public import proofs.«01_k».proof.Proof.Launch
public import proofs.«01_k».proof.Proof.Gen.Kernel
public import proofs.«01_k».proof.Proof.Gen.ReferenceIdeal.Run
public import proofs.«01_k».proof.Defs

@[expose] public section

noncomputable section

namespace Cert.AllReduce

open Idealize.ShloMosaic Idealize.ShloMosaic.TcCoe Idealize.SL.Sem
open Cert.KernelIdeal.Gen (hostOps0_W hostOps1_W)

variable {F : FTy → Type} [FloatOps F]

theorem at_end {m : (ℓ : Loc KernelIdeal.nD KernelIdeal.τ KernelIdeal.sig) → Buf (Elt F) ℓ} {mem : (ℓ : Loc KernelIdeal.nD KernelIdeal.τ KernelIdeal.sig) → Buf (Elt F) ℓ}
    (h : ∀ c : Dev KernelIdeal.nD, ∀ b ∈ Pipeline.ucRefs KernelIdeal.τ KernelIdeal.sig, mem (c, b) = W3 m c b) (c : Dev KernelIdeal.nD) (r : Ref KernelIdeal.sig .tc) (hs : r.isScoped = false) :
    mem ((c : Thread KernelIdeal.nD KernelIdeal.τ).loc r) = W3 m c (Proc.devRef .tc r) :=
  h c (Proc.devRef .tc r) (Finset.mem_filter.mpr ⟨StableHlo.devRef_mem_tcRefs r, by simpa using hs⟩)

/-- An argument ends as it was. -/
theorem kept {m : (ℓ : Loc KernelIdeal.nD KernelIdeal.τ KernelIdeal.sig) → Buf (Elt F) ℓ} {mem : (ℓ : Loc KernelIdeal.nD KernelIdeal.τ KernelIdeal.sig) → Buf (Elt F) ℓ}
    (h : ∀ c : Dev KernelIdeal.nD, ∀ b ∈ Pipeline.ucRefs KernelIdeal.τ KernelIdeal.sig, mem (c, b) = W3 m c b) (c : Dev KernelIdeal.nD) (r : Ref KernelIdeal.sig .tc) (hs : r.isScoped = false)
    (h1 : r ∉ hostOps1_W) (h2 : r ≠ KernelIdeal.main_v15) (h3 : r ∉ hostOps0_W) :
    mem ((c : Thread KernelIdeal.nD KernelIdeal.τ).loc r) = m ((c : Thread KernelIdeal.nD KernelIdeal.τ).loc r) :=
  (at_end h c r hs).trans (W3_of m c r h1 h2 h3)

attribute [local instance] Kernel.Gen.facts KernelIdeal.Gen.facts

/-- The kernel's two prints are the same program. -/
theorem same_bodies : (Kernel.defs₀ (F := F)) = KernelIdeal.defs₀ := by
  unfold Kernel.defs₀ KernelIdeal.defs₀
  refine congrArg Defs.onTc (funext fun l => funext fun x => ?_)
  match l, x with
  | 0, (t, s) => rfl
theorem same_defs : (Kernel.defs (F := F)) = KernelIdeal.defs := by
  unfold Kernel.defs KernelIdeal.defs
  rw [same_bodies]; rfl

/-- The kernel runs, its arguments kept and its counters at zero, over any floats. -/
theorem frame_any (D : Defs KernelIdeal.nD KernelIdeal.τ KernelIdeal.sig (Elt F) (Pipeline.Sig KernelIdeal.Λ₀ (Fin 1) fun p => (KernelIdeal.pcfgs (F := F) p).Adm)) (hD : D = KernelIdeal.defs) (m : (ℓ : Loc KernelIdeal.nD KernelIdeal.τ KernelIdeal.sig) → Buf (Elt F) ℓ) (ρ : Dev KernelIdeal.nD → PrngReg) :
    θ_run D (onTc (τ := KernelIdeal.τ) (KernelIdeal.main (F := F))) ⟨m, fun _ => 0, ρ⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4))
      ∧ r.2.sem = fun _ => 0) := hD ▸
  (θ_run (KernelIdeal.defs (F := F)) _ _).mono (fun _ h => ⟨fun c => ⟨kept h.1 c KernelIdeal.main_arg0 rfl (by decide) (by decide) (by decide),
    kept h.1 c KernelIdeal.main_arg1 rfl (by decide) (by decide) (by decide), kept h.1 c KernelIdeal.main_arg2 rfl (by decide) (by decide) (by decide),
    kept h.1 c KernelIdeal.main_arg3 rfl (by decide) (by decide) (by decide), kept h.1 c KernelIdeal.main_arg4 rfl (by decide) (by decide) (by decide)⟩, h.2⟩)
    (run_main (F := F) m ρ)

theorem frame_ideal : Cert.quiescent_KernelIdeal (hKernelIdeal := KernelIdeal.Gen.facts) := fun m ρ _ => frame_any _ rfl m ρ

theorem frame_bits : Cert.quiescent_Kernel (hKernel := Kernel.Gen.facts) := fun m ρ _ => frame_any _ same_defs m ρ

theorem frame_reference : Cert.quiescent_ReferenceIdeal (hReferenceIdeal := ReferenceIdeal.Gen.facts) := fun m ρ _ =>
  (θ_run (ReferenceIdeal.defs (F := Ideal)) _ _).mono (fun r h => ⟨fun c => (h c).2, sem_eq_zero_of_no_sems rfl _⟩)
    (ReferenceIdeal.Value.run (F := Ideal) m ρ)

end Cert.AllReduce

end
-- ==== Proof.Equation.lean ====
/-
The value claim: on every device the kernel's result, over the extended reals, is the reference's.
-/
module

public import proofs.«01_k».proof.Proof.Inputs
public import proofs.«01_k».proof.Proof.Sum
public import proofs.«01_k».proof.Proof.Frames

@[expose] public section

set_option maxRecDepth 16384

noncomputable section

namespace Cert.AllReduce

open Cert.KernelIdeal.Gen
open Idealize.ShloMosaic Idealize.ShloMosaic.TcCoe Idealize.SL.Sem

/-- The partial products of 32 devices that hold their blocks of the whole arrays add up to the whole result. -/
theorem parts_sum (X : FVec Ideal ⟨3, ![2, 512, 768]⟩ .bf16) (Wq : FVec Ideal ⟨2, ![768, 16384]⟩ .bf16)
    (K V : FVec Ideal ⟨4, ![2, 512, 256, 64]⟩ .bf16) (Wo : FVec Ideal ⟨2, ![16384, 768]⟩ .bf16)
    (m : (ℓ : Loc KernelIdeal.nD KernelIdeal.τ KernelIdeal.sig) → Buf (Elt Ideal) ℓ)
    (hX : ∀ c, inX m c = X) (hWq : ∀ c, inWq m c = Layout.block ⟨2, ![768, 512]⟩ ⟨2, ![768, 16384]⟩ 1 32 c Wq)
    (hK : ∀ c, inK m c = Host.dynamicSlice KernelIdeal.S2x512x8x64 K (firstHead c) KernelIdeal.Facts₀.sliceFits_S2x512x256x64_S2x512x8x64)
    (hV : ∀ c, inV m c = Host.dynamicSlice KernelIdeal.S2x512x8x64 V (firstHead c) KernelIdeal.Facts₀.sliceFits_S2x512x256x64_S2x512x8x64)
    (hWo : ∀ c, inWo m c = Layout.block ⟨2, ![512, 768]⟩ ⟨2, ![16384, 768]⟩ 0 32 c Wo)
    (b : Fin 2) (r : Fin 512) (n : Fin 768) :
    result (parts m) (ix2 (rowOf b r) n) = wholeOut X Wq K V Wo b r n := by
  rw [result_ideal, wholeOut_eq]
  refine Finset.sum_congr rfl fun d _ => ?_
  refine (partVal_apply (inX m d) (inWq m d) (inK m d) (inV m d) (inWo m d) b r n).trans ?_
  refine Finset.sum_congr rfl fun h _ => Finset.sum_congr rfl fun e _ => ?_
  rw [hX, hWq, hK, hV, hWo, wo_block]
  refine congrArg (fun y : EReal => y * _) ?_
  refine congrArg₂ (fun s v => mix r s v e) (funext fun l => ?_) (funext fun l => funext fun e' => heads_apply V d b l h e')
  rw [wholeScores_eq]
  unfold rowScores
  refine Finset.sum_congr rfl fun e' _ => ?_
  simp only [wq_block, heads_apply]

/-- The last reshape: rows 0–511 are batch 0, rows 512–1023 batch 1. -/
theorem out_apply (m : (ℓ : Loc KernelIdeal.nD KernelIdeal.τ KernelIdeal.sig) → Buf (Elt Ideal) ℓ) (c : Dev KernelIdeal.nD)
    (b : Fin 2) (r : Fin 512) (n : Fin 768) :
    (W3 m c (Proc.devRef .tc KernelIdeal.main_v16) : FVec Ideal ⟨3, ![2, 512, 768]⟩ .f32) (ix3 b r n)
      = result (parts m) (ix2 (rowOf b r) n) := by
  have h : (W3 m c (Proc.devRef .tc KernelIdeal.main_v16) : FVec Ideal ⟨3, ![2, 512, 768]⟩ .f32)
      = shapeCast KernelIdeal.S2x512x768 (result (parts m)) KernelIdeal.Facts₀.shapeCasts_S1024x768_S2x512x768 := by
    unfold W3 hostOps1
    after_results
    rw [W2_out]
    rfl
  rw [h]
  pointwise
  refine congrArg (result (parts m)) ?_
  rw [ix2_inj]
  exact ⟨Fin.ext (congrArg (· + r.val) (Nat.mul_comm b.val 512)), rfl⟩

/-- Two arrays that agree at every element are the same. -/
theorem arrays_ext (f g : FVec Ideal ⟨3, ![2, 512, 768]⟩ .f32) (h : ∀ (b : Fin 2) (r : Fin 512) (n : Fin 768), f (ix3 b r n) = g (ix3 b r n)) : f = g :=
  funext fun i => by rw [eq_ix3 i]; exact h (i 0) (i 1) (i 2)

/-- Every device's result is the reference's. -/
theorem out_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (h : ∀ c : Dev KernelIdeal.nD,
      m ((c.tc : Thread KernelIdeal.nD KernelIdeal.τ).loc KernelIdeal.main_arg0) = m' (((0 : Dev ReferenceIdeal.nD).tc : Thread ReferenceIdeal.nD ReferenceIdeal.τ).loc ReferenceIdeal.main_arg0)
      ∧ m ((c.tc : Thread KernelIdeal.nD KernelIdeal.τ).loc KernelIdeal.main_arg1) = Layout.block ⟨2, ![768, 512]⟩ ⟨2, ![768, 16384]⟩ 1 32 c (m' (((0 : Dev ReferenceIdeal.nD).tc : Thread ReferenceIdeal.nD ReferenceIdeal.τ).loc ReferenceIdeal.main_arg1))
      ∧ m ((c.tc : Thread KernelIdeal.nD KernelIdeal.τ).loc KernelIdeal.main_arg2) = m' (((0 : Dev ReferenceIdeal.nD).tc : Thread ReferenceIdeal.nD ReferenceIdeal.τ).loc ReferenceIdeal.main_arg2)
      ∧ m ((c.tc : Thread KernelIdeal.nD KernelIdeal.τ).loc KernelIdeal.main_arg3) = m' (((0 : Dev ReferenceIdeal.nD).tc : Thread ReferenceIdeal.nD ReferenceIdeal.τ).loc ReferenceIdeal.main_arg3)
      ∧ m ((c.tc : Thread KernelIdeal.nD KernelIdeal.τ).loc KernelIdeal.main_arg4) = Layout.block ⟨2, ![512, 768]⟩ ⟨2, ![16384, 768]⟩ 0 32 c (m' (((0 : Dev ReferenceIdeal.nD).tc : Thread ReferenceIdeal.nD ReferenceIdeal.τ).loc ReferenceIdeal.main_arg4)))
    (c : Dev KernelIdeal.nD) :
    (W3 m c (Proc.devRef .tc KernelIdeal.main_v16) : FVec Ideal ⟨3, ![2, 512, 768]⟩ .f32) = ReferenceIdeal.Value.res_main_v37 (F := Ideal) m' 0 := by
  refine arrays_ext _ _ fun b r n => ?_
  rw [out_apply, reference_apply]
  refine parts_sum (m' (((0 : Dev ReferenceIdeal.nD).tc : Thread ReferenceIdeal.nD ReferenceIdeal.τ).loc ReferenceIdeal.main_arg0)) (m' (((0 : Dev ReferenceIdeal.nD).tc : Thread ReferenceIdeal.nD ReferenceIdeal.τ).loc ReferenceIdeal.main_arg1)) (m' (((0 : Dev ReferenceIdeal.nD).tc : Thread ReferenceIdeal.nD ReferenceIdeal.τ).loc ReferenceIdeal.main_arg2)) (m' (((0 : Dev ReferenceIdeal.nD).tc : Thread ReferenceIdeal.nD ReferenceIdeal.τ).loc ReferenceIdeal.main_arg3)) (m' (((0 : Dev ReferenceIdeal.nD).tc : Thread ReferenceIdeal.nD ReferenceIdeal.τ).loc ReferenceIdeal.main_arg4)) m (fun d => ?_) (fun d => ?_) (fun d => ?_) (fun d => ?_) (fun d => ?_) b r n
  · rw [inX_eq]; exact (h d).1
  · rw [inWq_eq]; exact (h d).2.1
  · rw [inK_eq]; exact congrArg (fun K : FVec Ideal KernelIdeal.S2x512x256x64 .bf16 => Host.dynamicSlice KernelIdeal.S2x512x8x64 K (firstHead d) KernelIdeal.Facts₀.sliceFits_S2x512x256x64_S2x512x8x64) (h d).2.2.1
  · rw [inV_eq]; exact congrArg (fun V : FVec Ideal KernelIdeal.S2x512x256x64 .bf16 => Host.dynamicSlice KernelIdeal.S2x512x8x64 V (firstHead d) KernelIdeal.Facts₀.sliceFits_S2x512x256x64_S2x512x8x64) (h d).2.2.2.1
  · rw [inWo_eq]; exact (h d).2.2.2.2

/-- The kernel and the reference, from arrays that correspond, end with one result, on every device. -/
theorem same_values : Cert.algebraic_KernelIdeal_ReferenceIdeal (hKernelIdeal := KernelIdeal.Gen.facts) (hReferenceIdeal := ReferenceIdeal.Gen.facts) := by
  intro m g m' g' _ h
  refine ⟨ReferenceIdeal.Value.res_main_v37 (F := Ideal) m' 0, ?_, ?_⟩
  · refine (θ_run (KernelIdeal.defs (F := Ideal)) _ _).mono (fun _ hr c => ⟨?_, ?_, ?_, ?_, ?_, ?_⟩) (run_main (F := Ideal) m g)
    · exact (at_end hr.1 c KernelIdeal.main_v16 rfl).trans (out_eq m m' h c)
    · exact kept hr.1 c KernelIdeal.main_arg0 rfl (by decide) (by decide) (by decide)
    · exact kept hr.1 c KernelIdeal.main_arg1 rfl (by decide) (by decide) (by decide)
    · exact kept hr.1 c KernelIdeal.main_arg2 rfl (by decide) (by decide) (by decide)
    · exact kept hr.1 c KernelIdeal.main_arg3 rfl (by decide) (by decide) (by decide)
    · exact kept hr.1 c KernelIdeal.main_arg4 rfl (by decide) (by decide) (by decide)
  · exact (θ_run (ReferenceIdeal.defs (F := Ideal)) _ _).mono (fun r hr => hr 0) (ReferenceIdeal.Value.run (F := Ideal) m' g')

end Cert.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.AllReduce.frame_bits, Cert.AllReduce.frame_ideal, Cert.AllReduce.frame_reference, trivial,
  Cert.AllReduce.same_values⟩

end Cert.Proof

end
